-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x192x224x224 : Shape := ⟨4, ![2, 192, 224, 224]⟩
abbrev S8x1x1 : Shape := ⟨3, ![8, 1, 1]⟩
abbrev S576x192x1x1 : Shape := ⟨4, ![576, 192, 1, 1]⟩
abbrev S576x1x3x3 : Shape := ⟨4, ![576, 1, 3, 3]⟩
abbrev S192x192x1x1 : Shape := ⟨4, ![192, 192, 1, 1]⟩
abbrev S1 : Shape := ⟨1, ![1]⟩
abbrev S_ : Shape := ⟨0, ![]⟩

class Facts : Prop where
  bcast_S_S2x192x224x224 : S_.BroadcastsInDim S2x192x224x224 (![] : Fin 0 → Fin S2x192x224x224.rank)
  bcast_S_S8x1x1 : S_.BroadcastsInDim S8x1x1 (![] : Fin 0 → Fin S8x1x1.rank)
  bcast_S_S576x192x1x1 : S_.BroadcastsInDim S576x192x1x1 (![] : Fin 0 → Fin S576x192x1x1.rank)
  bcast_S_S576x1x3x3 : S_.BroadcastsInDim S576x1x3x3 (![] : Fin 0 → Fin S576x1x3x3.rank)
  bcast_S_S1 : S_.BroadcastsInDim S1 (![] : Fin 0 → Fin S1.rank)

variable [Facts]

def fn_part1 {F : FTy → Type} [FloatOps F] (main_arg7 : FVec F S1 .f32) (main_arg8 : FVec F S1 .f32) (main_v2 : IVec S2x192x224x224 1) (main_v5 : IVec S8x1x1 1) (main_v8 : IVec S576x192x1x1 1) (main_v11 : IVec S576x1x3x3 1) (main_v14 : IVec S1 1) (main_v17 : IVec S1 1) : IVec S2x192x224x224 1 × IVec S8x1x1 1 × IVec S576x192x1x1 1 × IVec S576x1x3x3 1 × IVec S1 1 × IVec S1 1 × IVec S1 1 × IVec S1 1 :=
  let main_v18 : FVec F S1 .f32 := Host.absf main_arg7
  let main_cst_5 : FVec F S_ .f32 := constant S_ .f32 0x7F800000#32
  let main_v19 : FVec F S1 .f32 := broadcastInDim S1 ![] bcast_S_S1 main_cst_5
  let main_v20 : IVec S1 1 := cmpf .olt main_v18 main_v19
  let main_v21 : FVec F S1 .f32 := Host.absf main_arg8
  let main_cst_6 : FVec F S_ .f32 := constant S_ .f32 0x7F800000#32
  let main_v22 : FVec F S1 .f32 := broadcastInDim S1 ![] bcast_S_S1 main_cst_6
  let main_v23 : IVec S1 1 := cmpf .olt main_v21 main_v22
  (main_v2, main_v5, main_v8, main_v11, main_v14, main_v17, main_v20, main_v23)

def fn {F : FTy → Type} [FloatOps F] (main_arg0 : FVec F S2x192x224x224 .f32) (main_arg1 : FVec F S8x1x1 .f32) (main_arg2 : FVec F S576x192x1x1 .f32) (main_arg3 : FVec F S576x1x3x3 .f32) (main_arg4 : FVec F S192x192x1x1 .f32) (main_arg5 : FVec F S1 .f32) (main_arg6 : FVec F S1 .f32) (main_arg7 : FVec F S1 .f32) (main_arg8 : FVec F S1 .f32) : IVec S2x192x224x224 1 × IVec S8x1x1 1 × IVec S576x192x1x1 1 × IVec S576x1x3x3 1 × IVec S1 1 × IVec S1 1 × IVec S1 1 × IVec S1 1 :=
  let main_v0 : FVec F S2x192x224x224 .f32 := Host.absf main_arg0
  let main_cst : FVec F S_ .f32 := constant S_ .f32 0x7F800000#32
  let main_v1 : FVec F S2x192x224x224 .f32 := broadcastInDim S2x192x224x224 ![] bcast_S_S2x192x224x224 main_cst
  let main_v2 : IVec S2x192x224x224 1 := cmpf .olt main_v0 main_v1
  let main_v3 : FVec F S8x1x1 .f32 := Host.absf main_arg1
  let main_cst_0 : FVec F S_ .f32 := constant S_ .f32 0x7F800000#32
  let main_v4 : FVec F S8x1x1 .f32 := broadcastInDim S8x1x1 ![] bcast_S_S8x1x1 main_cst_0
  let main_v5 : IVec S8x1x1 1 := cmpf .olt main_v3 main_v4
  let main_v6 : FVec F S576x192x1x1 .f32 := Host.absf main_arg2
  let main_cst_1 : FVec F S_ .f32 := constant S_ .f32 0x7F800000#32
  let main_v7 : FVec F S576x192x1x1 .f32 := broadcastInDim S576x192x1x1 ![] bcast_S_S576x192x1x1 main_cst_1
  let main_v8 : IVec S576x192x1x1 1 := cmpf .olt main_v6 main_v7
  let main_v9 : FVec F S576x1x3x3 .f32 := Host.absf main_arg3
  let main_cst_2 : FVec F S_ .f32 := constant S_ .f32 0x7F800000#32
  let main_v10 : FVec F S576x1x3x3 .f32 := broadcastInDim S576x1x3x3 ![] bcast_S_S576x1x3x3 main_cst_2
  let main_v11 : IVec S576x1x3x3 1 := cmpf .olt main_v9 main_v10
  let main_v12 : FVec F S1 .f32 := Host.absf main_arg5
  let main_cst_3 : FVec F S_ .f32 := constant S_ .f32 0x7F800000#32
  let main_v13 : FVec F S1 .f32 := broadcastInDim S1 ![] bcast_S_S1 main_cst_3
  let main_v14 : IVec S1 1 := cmpf .olt main_v12 main_v13
  let main_v15 : FVec F S1 .f32 := Host.absf main_arg6
  let main_cst_4 : FVec F S_ .f32 := constant S_ .f32 0x7F800000#32
  let main_v16 : FVec F S1 .f32 := broadcastInDim S1 ![] bcast_S_S1 main_cst_4
  let main_v17 : IVec S1 1 := cmpf .olt main_v15 main_v16
  fn_part1 (F := F) main_arg7 main_arg8 main_v2 main_v5 main_v8 main_v11 main_v14 main_v17
-- ==== Kernel.lean ====
abbrev S2x192x224x224 : Shape := ⟨4, ![2, 192, 224, 224]⟩
abbrev S8x1x1 : Shape := ⟨3, ![8, 1, 1]⟩
abbrev S576x192x1x1 : Shape := ⟨4, ![576, 192, 1, 1]⟩
abbrev S576x1x3x3 : Shape := ⟨4, ![576, 1, 3, 3]⟩
abbrev S192x192x1x1 : Shape := ⟨4, ![192, 192, 1, 1]⟩
abbrev S1 : Shape := ⟨1, ![1]⟩
abbrev S576x192 : Shape := ⟨2, ![576, 192]⟩
abbrev S576x3x3 : Shape := ⟨3, ![576, 3, 3]⟩
abbrev S192x192 : Shape := ⟨2, ![192, 192]⟩
abbrev S8 : Shape := ⟨1, ![8]⟩
abbrev S8x24 : Shape := ⟨2, ![8, 24]⟩
abbrev S192 : Shape := ⟨1, ![192]⟩
abbrev S192x1 : Shape := ⟨2, ![192, 1]⟩
abbrev S4 : Shape := ⟨1, ![4]⟩
abbrev S4x1 : Shape := ⟨2, ![4, 1]⟩
abbrev S2x576x112x112 : Shape := ⟨4, ![2, 576, 112, 112]⟩
abbrev S2x576x12544 : Shape := ⟨3, ![2, 576, 12544]⟩
abbrev S2x192x192 : Shape := ⟨3, ![2, 192, 192]⟩
abbrev S1x192x32x224 : Shape := ⟨4, ![1, 192, 32, 224]⟩
abbrev S1x576x16x112 : Shape := ⟨4, ![1, 576, 16, 112]⟩
abbrev S224x112 : Shape := ⟨2, ![224, 112]⟩
abbrev S1x192x1x224 : Shape := ⟨4, ![1, 192, 1, 224]⟩
abbrev S192x224 : Shape := ⟨2, ![192, 224]⟩
abbrev S576x224 : Shape := ⟨2, ![576, 224]⟩
abbrev S576x112 : Shape := ⟨2, ![576, 112]⟩
abbrev S1x576x1x112 : Shape := ⟨4, ![1, 576, 1, 112]⟩
abbrev S1x96x112x112 : Shape := ⟨4, ![1, 96, 112, 112]⟩
abbrev S96x3x3 : Shape := ⟨3, ![96, 3, 3]⟩
abbrev S96x112x112 : Shape := ⟨3, ![96, 112, 112]⟩
abbrev S96x112x1 : Shape := ⟨3, ![96, 112, 1]⟩
abbrev S96x112x111 : Shape := ⟨3, ![96, 112, 111]⟩
abbrev S96x1x1 : Shape := ⟨3, ![96, 1, 1]⟩
abbrev S96 : Shape := ⟨1, ![96]⟩
abbrev S96x1x112 : Shape := ⟨3, ![96, 1, 112]⟩
abbrev S96x111x112 : Shape := ⟨3, ![96, 111, 112]⟩
abbrev S1x192x12544 : Shape := ⟨3, ![1, 192, 12544]⟩
abbrev S1x192x192 : Shape := ⟨3, ![1, 192, 192]⟩
abbrev S192x12544 : Shape := ⟨2, ![192, 12544]⟩
abbrev S1x192 : Shape := ⟨2, ![1, 192]⟩
abbrev S24x24 : Shape := ⟨2, ![24, 24]⟩
abbrev S24x1x24 : Shape := ⟨3, ![24, 1, 24]⟩
abbrev S24x24x1 : Shape := ⟨3, ![24, 24, 1]⟩
abbrev S24x24x24 : Shape := ⟨3, ![24, 24, 24]⟩
abbrev S24 : Shape := ⟨1, ![24]⟩
abbrev S24x1 : Shape := ⟨2, ![24, 1]⟩
abbrev S1x1 : Shape := ⟨2, ![1, 1]⟩
abbrev S1x24x24 : Shape := ⟨3, ![1, 24, 24]⟩
abbrev S1x192x16x112 : Shape := ⟨4, ![1, 192, 16, 112]⟩
abbrev S112x224 : Shape := ⟨2, ![112, 224]⟩
abbrev S1x192x1x112 : Shape := ⟨4, ![1, 192, 1, 112]⟩
abbrev S192x112 : Shape := ⟨2, ![192, 112]⟩

abbrev nBuf : Space → Nat
  | .hbm => 25
  | .vmem => 26
  | .smem => 0
  | _ => 0

abbrev bufTy : (tb : Table) → Fin (tcTables nBuf tb) → BufTy
  | .hbm, ⟨0, _⟩ => ⟨S2x192x224x224, .f32⟩
  | .hbm, ⟨1, _⟩ => ⟨S8x1x1, .f32⟩
  | .hbm, ⟨2, _⟩ => ⟨S576x192x1x1, .f32⟩
  | .hbm, ⟨3, _⟩ => ⟨S576x1x3x3, .f32⟩
  | .hbm, ⟨4, _⟩ => ⟨S192x192x1x1, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S576x192, .f32⟩
  | .hbm, ⟨10, _⟩ => ⟨S576x3x3, .f32⟩
  | .hbm, ⟨11, _⟩ => ⟨S192x192, .f32⟩
  | .hbm, ⟨12, _⟩ => ⟨S8, .f32⟩
  | .hbm, ⟨13, _⟩ => ⟨S8x24, .f32⟩
  | .hbm, ⟨14, _⟩ => ⟨S192, .f32⟩
  | .hbm, ⟨15, _⟩ => ⟨S192x1, .f32⟩
  | .hbm, ⟨16, _⟩ => ⟨S4, .f32⟩
  | .hbm, ⟨17, _⟩ => ⟨S4x1, .f32⟩
  | .hbm, ⟨18, _⟩ => ⟨S2x576x112x112, .f32⟩
  | .hbm, ⟨19, _⟩ => ⟨S2x576x12544, .f32⟩
  | .hbm, ⟨20, _⟩ => ⟨S2x576x112x112, .f32⟩
  | .hbm, ⟨21, _⟩ => ⟨S2x576x112x112, .f32⟩
  | .hbm, ⟨22, _⟩ => ⟨S2x576x12544, .f32⟩
  | .hbm, ⟨23, _⟩ => ⟨S2x192x192, .f32⟩
  | .hbm, ⟨24, _⟩ => ⟨S2x192x224x224, .f32⟩
  | .local _ .vmem, ⟨0, _⟩ => ⟨S1x192x32x224, .f32⟩
  | .local _ .vmem, ⟨1, _⟩ => ⟨S1x192x32x224, .f32⟩
  | .local _ .vmem, ⟨2, _⟩ => ⟨S576x192, .f32⟩
  | .local _ .vmem, ⟨3, _⟩ => ⟨S1x576x16x112, .f32⟩
  | .local _ .vmem, ⟨4, _⟩ => ⟨S1x576x16x112, .f32⟩
  | .local _ .vmem, ⟨5, _⟩ => ⟨S1x96x112x112, .f32⟩
  | .local _ .vmem, ⟨6, _⟩ => ⟨S1x96x112x112, .f32⟩
  | .local _ .vmem, ⟨7, _⟩ => ⟨S96x3x3, .f32⟩
  | .local _ .vmem, ⟨8, _⟩ => ⟨S96x3x3, .f32⟩
  | .local _ .vmem, ⟨9, _⟩ => ⟨S1x96x112x112, .f32⟩
  | .local _ .vmem, ⟨10, _⟩ => ⟨S1x96x112x112, .f32⟩
  | .local _ .vmem, ⟨11, _⟩ => ⟨S1x192x12544, .f32⟩
  | .local _ .vmem, ⟨12, _⟩ => ⟨S1x192x12544, .f32⟩
  | .local _ .vmem, ⟨13, _⟩ => ⟨S1x192x12544, .f32⟩
  | .local _ .vmem, ⟨14, _⟩ => ⟨S1x192x12544, .f32⟩
  | .local _ .vmem, ⟨15, _⟩ => ⟨S192x1, .f32⟩
  | .local _ .vmem, ⟨16, _⟩ => ⟨S4x1, .f32⟩
  | .local _ .vmem, ⟨17, _⟩ => ⟨S1x192x192, .f32⟩
  | .local _ .vmem, ⟨18, _⟩ => ⟨S1x192x192, .f32⟩
  | .local _ .vmem, ⟨19, _⟩ => ⟨S1x192x192, .f32⟩
  | .local _ .vmem, ⟨20, _⟩ => ⟨S1x192x192, .f32⟩
  | .local _ .vmem, ⟨21, _⟩ => ⟨S1x192x16x112, .f32⟩
  | .local _ .vmem, ⟨22, _⟩ => ⟨S1x192x16x112, .f32⟩
  | .local _ .vmem, ⟨23, _⟩ => ⟨S192x192, .f32⟩
  | .local _ .vmem, ⟨24, _⟩ => ⟨S1x192x32x224, .f32⟩
  | .local _ .vmem, ⟨25, _⟩ => ⟨S1x192x32x224, .f32⟩
  | _, _ => ⟨S2x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨2, ![2, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x192x32x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S576x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x576x16x112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 6], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x96x112x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S96x3x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x96x112x112 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  ![arg0.toNat, c1_i32.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x192x12544 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x192x12544 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x192x192 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 7], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage3_0 : Fin 2 → Memref sig .tc .vmem S1x192x192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x192x16x112 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S192x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x192x32x224 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S2x192x224x224 : Shape := ⟨4, ![2, 192, 224, 224]⟩
abbrev S8x1x1 : Shape := ⟨3, ![8, 1, 1]⟩
abbrev S576x192x1x1 : Shape := ⟨4, ![576, 192, 1, 1]⟩
abbrev S576x1x3x3 : Shape := ⟨4, ![576, 1, 3, 3]⟩
abbrev S192x192x1x1 : Shape := ⟨4, ![192, 192, 1, 1]⟩
abbrev S1 : Shape := ⟨1, ![1]⟩
abbrev S576x192 : Shape := ⟨2, ![576, 192]⟩
abbrev S576x2x224x224 : Shape := ⟨4, ![576, 2, 224, 224]⟩
abbrev S2x576x224x224 : Shape := ⟨4, ![2, 576, 224, 224]⟩
abbrev S2x576x112x2x112x2 : Shape := ⟨6, ![2, 576, 112, 2, 112, 2]⟩
abbrev S_ : Shape := ⟨0, ![]⟩
abbrev S2x576x112x112 : Shape := ⟨4, ![2, 576, 112, 112]⟩
abbrev S2x576x114x114 : Shape := ⟨4, ![2, 576, 114, 114]⟩
abbrev S576x1x1x1 : Shape := ⟨4, ![576, 1, 1, 1]⟩
abbrev S576 : Shape := ⟨1, ![576]⟩
abbrev S1x576x1x1 : Shape := ⟨4, ![1, 576, 1, 1]⟩
abbrev S2x192x112x112 : Shape := ⟨4, ![2, 192, 112, 112]⟩
abbrev S2x8x24x12544 : Shape := ⟨4, ![2, 8, 24, 12544]⟩
abbrev S2x8x24 : Shape := ⟨3, ![2, 8, 24]⟩
abbrev S2x8x24x1 : Shape := ⟨4, ![2, 8, 24, 1]⟩
abbrev S2x8x24x24 : Shape := ⟨4, ![2, 8, 24, 24]⟩
abbrev S1x8x1x1 : Shape := ⟨4, ![1, 8, 1, 1]⟩
abbrev S2x8x24x12 : Shape := ⟨4, ![2, 8, 24, 12]⟩
abbrev S2x8x24x12x1 : Shape := ⟨5, ![2, 8, 24, 12, 1]⟩
abbrev S1x1x1x1x24 : Shape := ⟨5, ![1, 1, 1, 1, 24]⟩
abbrev S2x8x24x12x24 : Shape := ⟨5, ![2, 8, 24, 12, 24]⟩
abbrev S2x8x24x16 : Shape := ⟨4, ![2, 8, 24, 16]⟩
abbrev S2x8x24x16x1 : Shape := ⟨5, ![2, 8, 24, 16, 1]⟩
abbrev S2x8x24x16x24 : Shape := ⟨5, ![2, 8, 24, 16, 24]⟩
abbrev S2x8x24x18 : Shape := ⟨4, ![2, 8, 24, 18]⟩
abbrev S2x8x24x18x1 : Shape := ⟨5, ![2, 8, 24, 18, 1]⟩
abbrev S2x8x24x18x24 : Shape := ⟨5, ![2, 8, 24, 18, 24]⟩
abbrev S2x8x24x19 : Shape := ⟨4, ![2, 8, 24, 19]⟩
abbrev S2x8x24x19x1 : Shape := ⟨5, ![2, 8, 24, 19, 1]⟩
abbrev S2x8x24x19x24 : Shape := ⟨5, ![2, 8, 24, 19, 24]⟩
abbrev S1x1x1x1 : Shape := ⟨4, ![1, 1, 1, 1]⟩
abbrev S2x192x112x2x112 : Shape := ⟨5, ![2, 192, 112, 2, 112]⟩
abbrev S2x192x224x112 : Shape := ⟨4, ![2, 192, 224, 112]⟩
abbrev S2x192x224x112x2 : Shape := ⟨5, ![2, 192, 224, 112, 2]⟩
abbrev S192x192 : Shape := ⟨2, ![192, 192]⟩
abbrev S192x2x224x224 : Shape := ⟨4, ![192, 2, 224, 224]⟩

abbrev nBuf : Space → Nat
  | .hbm => 270
  | .vmem => 0
  | .smem => 0
  | _ => 0

abbrev hbmTy0_0 (i : Nat) : BufTy := match i % 128 with
  | 0 => ⟨S2x192x224x224, .f32⟩
  | 1 => ⟨S8x1x1, .f32⟩
  | 2 => ⟨S576x192x1x1, .f32⟩
  | 3 => ⟨S576x1x3x3, .f32⟩
  | 4 => ⟨S192x192x1x1, .f32⟩
  | 5 => ⟨S1, .f32⟩
  | 6 => ⟨S1, .f32⟩
  | 7 => ⟨S1, .f32⟩
  | 8 => ⟨S1, .f32⟩
  | 9 => ⟨S576x192, .f32⟩
  | 10 => ⟨S576x2x224x224, .f32⟩
  | 11 => ⟨S2x576x224x224, .f32⟩
  | 12 => ⟨S2x576x112x2x112x2, .f32⟩
  | 13 => ⟨S_, .f32⟩
  | 14 => ⟨S2x576x112x112, .f32⟩
  | 15 => ⟨S_, .i32⟩
  | 16 => ⟨S_, .f32⟩
  | 17 => ⟨S2x576x114x114, .f32⟩
  | 18 => ⟨S_, .f32⟩
  | 19 => ⟨S2x576x112x112, .f32⟩
  | 20 => ⟨S2x576x112x112, .f32⟩
  | 21 => ⟨S576x1x1x1, .f32⟩
  | 22 => ⟨S576, .f32⟩
  | 23 => ⟨S1x576x1x1, .f32⟩
  | 24 => ⟨S2x576x112x112, .f32⟩
  | 25 => ⟨S2x576x112x112, .f32⟩
  | 26 => ⟨S2x576x112x112, .f32⟩
  | 27 => ⟨S2x576x112x112, .f32⟩
  | 28 => ⟨S576x1x1x1, .f32⟩
  | 29 => ⟨S576, .f32⟩
  | 30 => ⟨S1x576x1x1, .f32⟩
  | 31 => ⟨S2x576x112x112, .f32⟩
  | 32 => ⟨S2x576x112x112, .f32⟩
  | 33 => ⟨S2x576x112x112, .f32⟩
  | 34 => ⟨S2x576x112x112, .f32⟩
  | 35 => ⟨S576x1x1x1, .f32⟩
  | 36 => ⟨S576, .f32⟩
  | 37 => ⟨S1x576x1x1, .f32⟩
  | 38 => ⟨S2x576x112x112, .f32⟩
  | 39 => ⟨S2x576x112x112, .f32⟩
  | 40 => ⟨S2x576x112x112, .f32⟩
  | 41 => ⟨S2x576x112x112, .f32⟩
  | 42 => ⟨S576x1x1x1, .f32⟩
  | 43 => ⟨S576, .f32⟩
  | 44 => ⟨S1x576x1x1, .f32⟩
  | 45 => ⟨S2x576x112x112, .f32⟩
  | 46 => ⟨S2x576x112x112, .f32⟩
  | 47 => ⟨S2x576x112x112, .f32⟩
  | 48 => ⟨S2x576x112x112, .f32⟩
  | 49 => ⟨S576x1x1x1, .f32⟩
  | 50 => ⟨S576, .f32⟩
  | 51 => ⟨S1x576x1x1, .f32⟩
  | 52 => ⟨S2x576x112x112, .f32⟩
  | 53 => ⟨S2x576x112x112, .f32⟩
  | 54 => ⟨S2x576x112x112, .f32⟩
  | 55 => ⟨S2x576x112x112, .f32⟩
  | 56 => ⟨S576x1x1x1, .f32⟩
  | 57 => ⟨S576, .f32⟩
  | 58 => ⟨S1x576x1x1, .f32⟩
  | 59 => ⟨S2x576x112x112, .f32⟩
  | 60 => ⟨S2x576x112x112, .f32⟩
  | 61 => ⟨S2x576x112x112, .f32⟩
  | 62 => ⟨S2x576x112x112, .f32⟩
  | 63 => ⟨S576x1x1x1, .f32⟩
  | 64 => ⟨S576, .f32⟩
  | 65 => ⟨S1x576x1x1, .f32⟩
  | 66 => ⟨S2x576x112x112, .f32⟩
  | 67 => ⟨S2x576x112x112, .f32⟩
  | 68 => ⟨S2x576x112x112, .f32⟩
  | 69 => ⟨S2x576x112x112, .f32⟩
  | 70 => ⟨S576x1x1x1, .f32⟩
  | 71 => ⟨S576, .f32⟩
  | 72 => ⟨S1x576x1x1, .f32⟩
  | 73 => ⟨S2x576x112x112, .f32⟩
  | 74 => ⟨S2x576x112x112, .f32⟩
  | 75 => ⟨S2x576x112x112, .f32⟩
  | 76 => ⟨S2x576x112x112, .f32⟩
  | 77 => ⟨S576x1x1x1, .f32⟩
  | 78 => ⟨S576, .f32⟩
  | 79 => ⟨S1x576x1x1, .f32⟩
  | 80 => ⟨S2x576x112x112, .f32⟩
  | 81 => ⟨S2x576x112x112, .f32⟩
  | 82 => ⟨S2x576x112x112, .f32⟩
  | 83 => ⟨S2x192x112x112, .f32⟩
  | 84 => ⟨S2x192x112x112, .f32⟩
  | 85 => ⟨S2x192x112x112, .f32⟩
  | 86 => ⟨S2x8x24x12544, .f32⟩
  | 87 => ⟨S2x8x24x12544, .f32⟩
  | 88 => ⟨S2x8x24x12544, .f32⟩
  | 89 => ⟨S2x8x24x12544, .f32⟩
  | 90 => ⟨S_, .f32⟩
  | 91 => ⟨S2x8x24, .f32⟩
  | 92 => ⟨S2x8x24x1, .f32⟩
  | 93 => ⟨S2x8x24x1, .f32⟩
  | 94 => ⟨S_, .f32⟩
  | 95 => ⟨S2x8x24x1, .f32⟩
  | 96 => ⟨S2x8x24x1, .f32⟩
  | 97 => ⟨S2x8x24x12544, .f32⟩
  | 98 => ⟨S2x8x24x12544, .f32⟩
  | 99 => ⟨S2x8x24x12544, .f32⟩
  | 100 => ⟨S_, .f32⟩
  | 101 => ⟨S2x8x24, .f32⟩
  | 102 => ⟨S2x8x24x1, .f32⟩
  | 103 => ⟨S2x8x24x1, .f32⟩
  | 104 => ⟨S_, .f32⟩
  | 105 => ⟨S2x8x24x1, .f32⟩
  | 106 => ⟨S2x8x24x1, .f32⟩
  | 107 => ⟨S2x8x24x12544, .f32⟩
  | 108 => ⟨S2x8x24x12544, .f32⟩
  | 109 => ⟨S2x8x24x24, .f32⟩
  | 110 => ⟨S1x8x1x1, .f32⟩
  | 111 => ⟨S2x8x24x24, .f32⟩
  | 112 => ⟨S2x8x24x24, .f32⟩
  | 113 => ⟨S2x8x24x12, .f32⟩
  | 114 => ⟨S2x8x24x12, .i32⟩
  | 115 => ⟨S2x8x24x12x1, .i32⟩
  | 116 => ⟨S1x1x1x1x24, .i32⟩
  | 117 => ⟨S2x8x24x12x24, .i32⟩
  | 118 => ⟨S2x8x24x12x24, .i32⟩
  | 119 => ⟨S2x8x24x12x24, .i1⟩
  | 120 => ⟨S2x8x24x12x24, .f32⟩
  | 121 => ⟨S_, .f32⟩
  | 122 => ⟨S2x8x24x24, .f32⟩
  | 123 => ⟨S_, .f32⟩
  | 124 => ⟨S2x8x24x24, .f32⟩
  | 125 => ⟨S2x8x24x24, .i1⟩
  | 126 => ⟨S_, .f32⟩
  | 127 => ⟨S2x8x24x24, .f32⟩
  | _ => ⟨S2x192x224x224, .f32⟩

abbrev hbmTy0_1 (i : Nat) : BufTy := match i % 128 with
  | 0 => ⟨S2x8x24x24, .f32⟩
  | 1 => ⟨S_, .f32⟩
  | 2 => ⟨S2x8x24, .f32⟩
  | 3 => ⟨S_, .f32⟩
  | 4 => ⟨S2x8x24, .f32⟩
  | 5 => ⟨S2x8x24, .f32⟩
  | 6 => ⟨S2x8x24x1, .f32⟩
  | 7 => ⟨S2x8x24x24, .f32⟩
  | 8 => ⟨S2x8x24x24, .f32⟩
  | 9 => ⟨S2x8x24x24, .f32⟩
  | 10 => ⟨S_, .f32⟩
  | 11 => ⟨S2x8x24, .f32⟩
  | 12 => ⟨S2x8x24x1, .f32⟩
  | 13 => ⟨S2x8x24x24, .f32⟩
  | 14 => ⟨S2x8x24x24, .f32⟩
  | 15 => ⟨S2x8x24x16, .f32⟩
  | 16 => ⟨S2x8x24x16, .i32⟩
  | 17 => ⟨S2x8x24x16x1, .i32⟩
  | 18 => ⟨S1x1x1x1x24, .i32⟩
  | 19 => ⟨S2x8x24x16x24, .i32⟩
  | 20 => ⟨S2x8x24x16x24, .i32⟩
  | 21 => ⟨S2x8x24x16x24, .i1⟩
  | 22 => ⟨S2x8x24x16x24, .f32⟩
  | 23 => ⟨S_, .f32⟩
  | 24 => ⟨S2x8x24x24, .f32⟩
  | 25 => ⟨S_, .f32⟩
  | 26 => ⟨S2x8x24x24, .f32⟩
  | 27 => ⟨S2x8x24x24, .i1⟩
  | 28 => ⟨S_, .f32⟩
  | 29 => ⟨S2x8x24x24, .f32⟩
  | 30 => ⟨S2x8x24x24, .f32⟩
  | 31 => ⟨S_, .f32⟩
  | 32 => ⟨S2x8x24, .f32⟩
  | 33 => ⟨S_, .f32⟩
  | 34 => ⟨S2x8x24, .f32⟩
  | 35 => ⟨S2x8x24, .f32⟩
  | 36 => ⟨S2x8x24x1, .f32⟩
  | 37 => ⟨S2x8x24x24, .f32⟩
  | 38 => ⟨S2x8x24x24, .f32⟩
  | 39 => ⟨S2x8x24x24, .f32⟩
  | 40 => ⟨S_, .f32⟩
  | 41 => ⟨S2x8x24, .f32⟩
  | 42 => ⟨S2x8x24x1, .f32⟩
  | 43 => ⟨S2x8x24x24, .f32⟩
  | 44 => ⟨S2x8x24x24, .f32⟩
  | 45 => ⟨S2x8x24x18, .f32⟩
  | 46 => ⟨S2x8x24x18, .i32⟩
  | 47 => ⟨S2x8x24x18x1, .i32⟩
  | 48 => ⟨S1x1x1x1x24, .i32⟩
  | 49 => ⟨S2x8x24x18x24, .i32⟩
  | 50 => ⟨S2x8x24x18x24, .i32⟩
  | 51 => ⟨S2x8x24x18x24, .i1⟩
  | 52 => ⟨S2x8x24x18x24, .f32⟩
  | 53 => ⟨S_, .f32⟩
  | 54 => ⟨S2x8x24x24, .f32⟩
  | 55 => ⟨S_, .f32⟩
  | 56 => ⟨S2x8x24x24, .f32⟩
  | 57 => ⟨S2x8x24x24, .i1⟩
  | 58 => ⟨S_, .f32⟩
  | 59 => ⟨S2x8x24x24, .f32⟩
  | 60 => ⟨S2x8x24x24, .f32⟩
  | 61 => ⟨S_, .f32⟩
  | 62 => ⟨S2x8x24, .f32⟩
  | 63 => ⟨S_, .f32⟩
  | 64 => ⟨S2x8x24, .f32⟩
  | 65 => ⟨S2x8x24, .f32⟩
  | 66 => ⟨S2x8x24x1, .f32⟩
  | 67 => ⟨S2x8x24x24, .f32⟩
  | 68 => ⟨S2x8x24x24, .f32⟩
  | 69 => ⟨S2x8x24x24, .f32⟩
  | 70 => ⟨S_, .f32⟩
  | 71 => ⟨S2x8x24, .f32⟩
  | 72 => ⟨S2x8x24x1, .f32⟩
  | 73 => ⟨S2x8x24x24, .f32⟩
  | 74 => ⟨S2x8x24x24, .f32⟩
  | 75 => ⟨S2x8x24x19, .f32⟩
  | 76 => ⟨S2x8x24x19, .i32⟩
  | 77 => ⟨S2x8x24x19x1, .i32⟩
  | 78 => ⟨S1x1x1x1x24, .i32⟩
  | 79 => ⟨S2x8x24x19x24, .i32⟩
  | 80 => ⟨S2x8x24x19x24, .i32⟩
  | 81 => ⟨S2x8x24x19x24, .i1⟩
  | 82 => ⟨S2x8x24x19x24, .f32⟩
  | 83 => ⟨S_, .f32⟩
  | 84 => ⟨S2x8x24x24, .f32⟩
  | 85 => ⟨S_, .f32⟩
  | 86 => ⟨S2x8x24x24, .f32⟩
  | 87 => ⟨S2x8x24x24, .i1⟩
  | 88 => ⟨S_, .f32⟩
  | 89 => ⟨S2x8x24x24, .f32⟩
  | 90 => ⟨S2x8x24x24, .f32⟩
  | 91 => ⟨S_, .f32⟩
  | 92 => ⟨S2x8x24, .f32⟩
  | 93 => ⟨S_, .f32⟩
  | 94 => ⟨S2x8x24, .f32⟩
  | 95 => ⟨S2x8x24, .f32⟩
  | 96 => ⟨S2x8x24x1, .f32⟩
  | 97 => ⟨S2x8x24x24, .f32⟩
  | 98 => ⟨S2x8x24x24, .f32⟩
  | 99 => ⟨S2x8x24x24, .f32⟩
  | 100 => ⟨S_, .f32⟩
  | 101 => ⟨S2x8x24, .f32⟩
  | 102 => ⟨S2x8x24x1, .f32⟩
  | 103 => ⟨S2x8x24x24, .f32⟩
  | 104 => ⟨S2x8x24x24, .f32⟩
  | 105 => ⟨S2x8x24x12544, .f32⟩
  | 106 => ⟨S2x8x24x12544, .f32⟩
  | 107 => ⟨S2x8x24x12544, .f32⟩
  | 108 => ⟨S2x8x24x12544, .f32⟩
  | 109 => ⟨S1x1x1x1, .f32⟩
  | 110 => ⟨S2x8x24x12544, .f32⟩
  | 111 => ⟨S2x8x24x12544, .f32⟩
  | 112 => ⟨S1x1x1x1, .f32⟩
  | 113 => ⟨S2x8x24x12544, .f32⟩
  | 114 => ⟨S2x8x24x12544, .f32⟩
  | 115 => ⟨S2x8x24x12544, .f32⟩
  | 116 => ⟨S1x1x1x1, .f32⟩
  | 117 => ⟨S2x8x24x12544, .f32⟩
  | 118 => ⟨S2x8x24x12544, .f32⟩
  | 119 => ⟨S2x8x24x12544, .f32⟩
  | 120 => ⟨S1x1x1x1, .f32⟩
  | 121 => ⟨S2x8x24x12544, .f32⟩
  | 122 => ⟨S2x8x24x12544, .f32⟩
  | 123 => ⟨S2x8x24x12544, .f32⟩
  | 124 => ⟨S2x192x112x112, .f32⟩
  | 125 => ⟨S_, .f32⟩
  | 126 => ⟨S2x192x112x112, .f32⟩
  | 127 => ⟨S2x192x112x112, .f32⟩
  | _ => ⟨S2x192x224x224, .f32⟩

abbrev hbmTy0_2 (i : Nat) : BufTy := match i % 128 with
  | 0 => ⟨S2x192x112x112, .f32⟩
  | 1 => ⟨S_, .f32⟩
  | 2 => ⟨S_, .f32⟩
  | 3 => ⟨S2x192x112x112, .f32⟩
  | 4 => ⟨S2x192x112x112, .f32⟩
  | 5 => ⟨S2x192x112x112, .f32⟩
  | 6 => ⟨S2x192x112x112, .f32⟩
  | 7 => ⟨S2x192x112x2x112, .f32⟩
  | 8 => ⟨S2x192x224x112, .f32⟩
  | 9 => ⟨S2x192x224x112x2, .f32⟩
  | 10 => ⟨S2x192x224x224, .f32⟩
  | 11 => ⟨S192x192, .f32⟩
  | 12 => ⟨S192x2x224x224, .f32⟩
  | 13 => ⟨S2x192x224x224, .f32⟩
  | _ => ⟨S2x192x224x224, .f32⟩

abbrev hbmTy (i : Nat) : BufTy := match i / 128 with
  | 0 => hbmTy0_0 i
  | 1 => hbmTy0_1 i
  | 2 => hbmTy0_2 i
  | _ => ⟨S2x192x224x224, .f32⟩

abbrev bufTy : (tb : Table) → Fin (tcTables nBuf tb) → BufTy
  | .hbm, ⟨i, _⟩ => hbmTy i
  | _, _ => ⟨S2x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_call1_v0 : Ref sig .tc := ⟨.hbm, 89, rfl⟩
abbrev main_call1_cst : Ref sig .tc := ⟨.hbm, 90, rfl⟩
abbrev main_call1_v1 : Ref sig .tc := ⟨.hbm, 91, rfl⟩
abbrev main_call1_v2 : Ref sig .tc := ⟨.hbm, 92, rfl⟩
abbrev main_v76 : Ref sig .tc := ⟨.hbm, 93, rfl⟩
abbrev main_cst_1 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_call2_v0 : Ref sig .tc := ⟨.hbm, 99, rfl⟩
abbrev main_call2_cst : Ref sig .tc := ⟨.hbm, 100, rfl⟩
abbrev main_call2_v1 : Ref sig .tc := ⟨.hbm, 101, rfl⟩
abbrev main_call2_v2 : Ref sig .tc := ⟨.hbm, 102, rfl⟩
abbrev main_v81 : Ref sig .tc := ⟨.hbm, 103, rfl⟩
abbrev main_cst_2 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_values : Ref sig .tc := ⟨.hbm, 113, rfl⟩
abbrev main_indices : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_v90 : Ref sig .tc := ⟨.hbm, 120, rfl⟩
abbrev main_cst_3 : Ref sig .tc := ⟨.hbm, 121, rfl⟩
abbrev main_v91 : Ref sig .tc := ⟨.hbm, 122, rfl⟩
abbrev main_cst_4 : Ref sig .tc := ⟨.hbm, 123, rfl⟩
abbrev main_v92 : Ref sig .tc := ⟨.hbm, 124, rfl⟩
abbrev main_v93 : Ref sig .tc := ⟨.hbm, 125, rfl⟩
abbrev main_cst_5 : Ref sig .tc := ⟨.hbm, 126, rfl⟩
abbrev main_v94 : Ref sig .tc := ⟨.hbm, 127, rfl⟩
abbrev main_v95 : Ref sig .tc := ⟨.hbm, 128, rfl⟩
abbrev main_cst_6 : Ref sig .tc := ⟨.hbm, 129, rfl⟩
abbrev main_v96 : Ref sig .tc := ⟨.hbm, 130, rfl⟩
abbrev main_cst_7 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_8 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_values_9 : Ref sig .tc := ⟨.hbm, 143, rfl⟩
abbrev main_indices_10 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_v107 : Ref sig .tc := ⟨.hbm, 150, rfl⟩
abbrev main_cst_11 : Ref sig .tc := ⟨.hbm, 151, rfl⟩
abbrev main_v108 : Ref sig .tc := ⟨.hbm, 152, rfl⟩
abbrev main_cst_12 : Ref sig .tc := ⟨.hbm, 153, rfl⟩
abbrev main_v109 : Ref sig .tc := ⟨.hbm, 154, rfl⟩
abbrev main_v110 : Ref sig .tc := ⟨.hbm, 155, rfl⟩
abbrev main_cst_13 : Ref sig .tc := ⟨.hbm, 156, rfl⟩
abbrev main_v111 : Ref sig .tc := ⟨.hbm, 157, rfl⟩
abbrev main_v112 : Ref sig .tc := ⟨.hbm, 158, rfl⟩
abbrev main_cst_14 : Ref sig .tc := ⟨.hbm, 159, rfl⟩
abbrev main_v113 : Ref sig .tc := ⟨.hbm, 160, rfl⟩
abbrev main_cst_15 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_16 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_values_17 : Ref sig .tc := ⟨.hbm, 173, rfl⟩
abbrev main_indices_18 : Ref sig .tc := ⟨.hbm, 174, rfl⟩
abbrev main_call7_v0 : Ref sig .tc := ⟨.hbm, 175, rfl⟩
abbrev main_call7_v1 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_v124 : Ref sig .tc := ⟨.hbm, 180, rfl⟩
abbrev main_cst_19 : Ref sig .tc := ⟨.hbm, 181, rfl⟩
abbrev main_v125 : Ref sig .tc := ⟨.hbm, 182, rfl⟩
abbrev main_cst_20 : Ref sig .tc := ⟨.hbm, 183, rfl⟩
abbrev main_v126 : Ref sig .tc := ⟨.hbm, 184, rfl⟩
abbrev main_v127 : Ref sig .tc := ⟨.hbm, 185, rfl⟩
abbrev main_cst_21 : Ref sig .tc := ⟨.hbm, 186, rfl⟩
abbrev main_v128 : Ref sig .tc := ⟨.hbm, 187, rfl⟩
abbrev main_v129 : Ref sig .tc := ⟨.hbm, 188, rfl⟩
abbrev main_cst_22 : Ref sig .tc := ⟨.hbm, 189, rfl⟩
abbrev main_v130 : Ref sig .tc := ⟨.hbm, 190, rfl⟩
abbrev main_cst_23 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_cst_24 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_values_25 : Ref sig .tc := ⟨.hbm, 203, rfl⟩
abbrev main_indices_26 : Ref sig .tc := ⟨.hbm, 204, rfl⟩
abbrev main_call9_v0 : Ref sig .tc := ⟨.hbm, 205, rfl⟩
abbrev main_call9_v1 : Ref sig .tc := ⟨.hbm, 206, rfl⟩
abbrev main_call9_v2 : Ref sig .tc := ⟨.hbm, 207, rfl⟩
abbrev main_call9_v3 : Ref sig .tc := ⟨.hbm, 208, rfl⟩
abbrev main_call9_v4 : Ref sig .tc := ⟨.hbm, 209, rfl⟩
abbrev main_v141 : Ref sig .tc := ⟨.hbm, 210, rfl⟩
abbrev main_cst_27 : Ref sig .tc := ⟨.hbm, 211, rfl⟩
abbrev main_v142 : Ref sig .tc := ⟨.hbm, 212, rfl⟩
abbrev main_cst_28 : Ref sig .tc := ⟨.hbm, 213, rfl⟩
abbrev main_v143 : Ref sig .tc := ⟨.hbm, 214, rfl⟩
abbrev main_v144 : Ref sig .tc := ⟨.hbm, 215, rfl⟩
abbrev main_cst_29 : Ref sig .tc := ⟨.hbm, 216, rfl⟩
abbrev main_v145 : Ref sig .tc := ⟨.hbm, 217, rfl⟩
abbrev main_v146 : Ref sig .tc := ⟨.hbm, 218, rfl⟩
abbrev main_cst_30 : Ref sig .tc := ⟨.hbm, 219, rfl⟩
abbrev main_v147 : Ref sig .tc := ⟨.hbm, 220, rfl⟩
abbrev main_cst_31 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_cst_32 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_cst_33 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_cst_34 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩

abbrev nD : Nat := 1
abbrev τ : Topo := Topo.v7x

variable {F : FTy → Type} [FloatOps F]
-- ==== Proof.TopRank.lean ====
/-
  A stable descending sort read as ranks: the elements that come among the first `k` are those with fewer than `k`
  elements before them, where one element is before another if it is greater, or equal and earlier.
-/
module

public import Idealize.ShloMosaic.Lib.Pipeline.Value
public import Idealize.ShloMosaic.Lib.Pointwise
public import Idealize.ShloMosaic.Lib.SortFacts

@[expose] public section

noncomputable section

namespace Cert.TopRank

open Idealize.ShloMosaic

variable {n : Nat}

/-- How many elements come before `d`: the greater ones, and the equal ones at an earlier place. -/
def rank (a : Fin n → EReal) (d : Fin n) : Nat :=
  (Finset.univ.filter fun e => a d < a e).card + (Finset.univ.filter fun e => a e = a d ∧ e < d).card

/-- `e` is strictly greater than `d`: what the sort compares. -/
def greater (a : Fin n → EReal) (e d : Fin n) : Bool := decide (a d < a e)

/-- `e` comes before `d`: greater, or equal and earlier. -/
def before (a : Fin n → EReal) (e d : Fin n) : Bool := decide (a d < a e ∨ (a e = a d ∧ e < d))

/-- On a list in index order the sort that compares values only is the sort by the order that breaks ties by the place. -/
theorem stableSort_before (a : Fin n → EReal) (l : List (Fin n)) (hl : l.Pairwise (· < ·)) :
    stableSort (greater a) l = stableSort (before a) l := by
  induction l with
  | nil => rfl
  | cons x l ih =>
    rw [List.pairwise_cons] at hl
    unfold stableSort
    rw [ih hl.2]
    refine insertBefore_congr _ _ _ _ fun b hb => ?_
    have hx : x < b := hl.1 b ((perm_stableSort _ _).mem_iff.mp hb)
    unfold greater before
    rw [decide_eq_decide]
    constructor
    · exact Or.inl
    · rintro (h | ⟨-, h⟩)
      · exact h
      · exact absurd hx (not_lt.mpr h.le)

/-- So the two sorts take every position from the same place. -/
theorem sortedFrom_before (a : Fin n → EReal) : sortedFrom (greater a) = sortedFrom (before a) := by
  have h : sortPositions n (greater a) = sortPositions n (before a) :=
    stableSort_before a _ (List.pairwise_lt_finRange n)
  funext k
  unfold sortedFrom
  simp only [List.get_eq_getElem, Fin.val_cast, h]

/-- Of two places, not both come before the other. -/
theorem before_asymm (a : Fin n → EReal) (x y : Fin n) (h : before a x y = true) : before a y x = false := by
  unfold before at *
  rw [decide_eq_true_eq] at h
  rw [decide_eq_false_iff_not]
  rintro (h' | ⟨h', h''⟩) <;> rcases h with h | ⟨h1, h2⟩
  · exact lt_asymm h h'
  · exact absurd h' (by rw [h1]; exact lt_irrefl _)
  · exact absurd h (by rw [h']; exact lt_irrefl _)
  · exact lt_asymm h2 h''

/-- Of two different places, one comes before the other. -/
theorem before_total (a : Fin n → EReal) (x y : Fin n) (hxy : x ≠ y) (h : before a x y = false) : before a y x = true := by
  unfold before at *
  rw [decide_eq_false_iff_not] at h
  rw [decide_eq_true_eq]
  push Not at h
  rcases lt_or_eq_of_le h.1 with h1 | h1
  · exact Or.inl h1
  · exact Or.inr ⟨h1.symm, lt_of_le_of_ne (h.2 h1) hxy.symm⟩

/-- Not coming before is passed on. -/
theorem before_trans (a : Fin n → EReal) (x y z : Fin n) (h1 : before a x y = false) (h2 : before a y z = false) :
    before a x z = false := by
  unfold before at *
  rw [decide_eq_false_iff_not] at *
  push Not at *
  refine ⟨h1.1.trans h2.1, fun h => ?_⟩
  have e1 : a x = a y := le_antisymm h1.1 (h2.1.trans h.symm.le)
  have e2 : a y = a z := e1.symm.trans h
  exact (h2.2 e2).trans (h1.2 e1)

/-- Position `i` of the sort comes before position `j` exactly when `i < j`. -/
theorem before_sortedFrom (a : Fin n → EReal) (i j : Fin n) :
    before a (sortedFrom (before a) i) (sortedFrom (before a) j) = true ↔ i < j := by
  have key : ∀ i j : Fin n, i < j → before a (sortedFrom (before a) i) (sortedFrom (before a) j) = true := by
    intro i j hij
    refine before_total a _ _ (fun h => hij.ne' (sortedFrom_injective _ h)) ?_
    exact sortedFrom_noInversion (before a) (before a) (before_asymm a) (fun _ _ h => h) (before_trans a) i j hij
  refine ⟨fun h => ?_, key i j⟩
  rcases lt_trichotomy i j with hij | rfl | hij
  · exact hij
  · have := before_asymm a _ _ h
    rw [h] at this
    exact absurd this (by simp)
  · have := before_asymm a _ _ (key j i hij)
    rw [h] at this
    exact absurd this (by simp)

/-- The rank counts the elements before. -/
theorem rank_eq (a : Fin n → EReal) (d : Fin n) : rank a d = (Finset.univ.filter fun e => before a e d = true).card := by
  unfold rank
  rw [← Finset.card_union_of_disjoint]
  · congr 1
    ext e
    simp [before]
  · rw [Finset.disjoint_filter]
    rintro e - h ⟨h', -⟩
    rw [h'] at h
    exact lt_irrefl _ h

/-- The element at position `k` of the sort has rank `k`. -/
theorem rank_sortedFrom (a : Fin n → EReal) (k : Fin n) : rank a (sortedFrom (greater a) k) = k.val := by
  rw [sortedFrom_before, rank_eq]
  have h : (Finset.univ.filter fun e => before a e (sortedFrom (before a) k) = true)
      = (Finset.univ.filter fun i : Fin n => i < k).image (sortedFrom (before a)) := by
    ext e
    obtain ⟨i, rfl⟩ := sortedFrom_surjective (before a) e
    simp only [Finset.mem_filter, Finset.mem_univ, true_and, before_sortedFrom, Finset.mem_image]
    constructor
    · intro h; exact ⟨i, h, rfl⟩
    · rintro ⟨i', h, h'⟩
      rw [← sortedFrom_injective _ h']; exact h
  rw [h, Finset.card_image_of_injective _ (sortedFrom_injective _)]
  have : (Finset.univ.filter fun i : Fin n => i < k) = Finset.Iio k := by ext; simp
  rw [this, Fin.card_Iio]

/-- An element is at one of the first `kk` positions exactly when its rank is below `kk`. -/
theorem exists_sortedFrom_iff (a : Fin n → EReal) (d : Fin n) (kk : Nat) :
    (∃ k : Fin n, k.val < kk ∧ sortedFrom (greater a) k = d) ↔ rank a d < kk := by
  constructor
  · rintro ⟨k, hk, rfl⟩
    rw [rank_sortedFrom]; exact hk
  · intro h
    obtain ⟨k, rfl⟩ := sortedFrom_surjective (greater a) d
    rw [rank_sortedFrom] at h
    exact ⟨k, h, rfl⟩

/-- Some element has rank zero, and it is a greatest one. -/
theorem exists_rank_zero (a : Fin n → EReal) (hn : 0 < n) : ∃ d, rank a d = 0 ∧ ∀ e, a e ≤ a d := by
  refine ⟨sortedFrom (greater a) ⟨0, hn⟩, rank_sortedFrom a ⟨0, hn⟩, fun e => ?_⟩
  have h := rank_sortedFrom a ⟨0, hn⟩
  unfold rank at h
  have h0 : (Finset.univ.filter fun e => a (sortedFrom (greater a) ⟨0, hn⟩) < a e).card = 0 := by
    simp only [] at h; omega
  rw [Finset.card_eq_zero, Finset.filter_eq_empty_iff] at h0
  exact not_lt.mp (h0 (Finset.mem_univ e))

end Cert.TopRank
-- ==== Proof.Basics.lean ====
/-
  Small facts about the ideal values that several modules use: a comparison's bit as a number, and sums in which one term
  is picked out.
-/
module

public import Idealize.ShloMosaic.Lib.Pipeline.Value
public import Idealize.ShloMosaic.Lib.Pointwise

@[expose] public section

noncomputable section

namespace Cert.Basics

open Idealize.ShloMosaic

/-- A comparison's bit, widened to a word and read as a float, is 1 where it holds and 0 where it does not. -/
theorem sitofp_ofBool (b : Bool) :
    FloatOps.sitofp (F := Ideal) FTy.f32 (BitVec.setWidth 32 (BitVec.ofBool b)) = if b then 1 else 0 := by
  cases b <;> simp [FloatOps.sitofp]

/-- An equality test of words, as a number. -/
theorem sitofp_eq (x y : BitVec 32) :
    FloatOps.sitofp (F := Ideal) FTy.f32 (BitVec.setWidth 32 (IntOp.cmpi CmpIPredicate.eq x y)) = if x = y then 1 else 0 := by
  unfold IntOp.cmpi
  rw [sitofp_ofBool]
  simp

/-- A sum of terms each times 1 at one index and 0 elsewhere is the term at that index. -/
theorem sum_mul_ite {n : Nat} (f : Fin n → EReal) (k : Fin n) :
    ∑ x : Fin n, f x * (if x.val = k.val then 1 else 0) = f k := by
  rw [Finset.sum_eq_single k]
  · simp
  · intro b _ hb
    rw [if_neg fun h => hb (Fin.ext h), mul_zero]
  · simp

/-- The same with the place given as a natural number below the bound. -/
theorem sum_mul_ite_nat {n : Nat} (f : Fin n → EReal) (k : Nat) (hk : k < n) :
    (∑ x : Fin n, f x * (if x.val = k then 1 else 0)) = f ⟨k, hk⟩ :=
  sum_mul_ite f ⟨k, hk⟩

end Cert.Basics
-- ==== Proof.RowMath.lean ====
/-
  One row of the attention matrix in plain mathematics: the exponentials kept where the rank is below a bound, their sum,
  and the four weighted softmax rows added together — as the kernel adds them, and as the reference takes them.
-/
module

public import proofs.«01_k».proof.Proof.TopRank
public import proofs.«01_k».proof.Proof.Basics

@[expose] public section

noncomputable section

namespace Cert.Row

open Idealize.ShloMosaic Cert.TopRank

/-- The greatest element of a row (`⊥` of an empty one). -/
def top (a : Fin 24 → EReal) : EReal := Finset.univ.fold max ⊥ a

/-- 1 where the rank is below `kk`, else 0. -/
def keep (a : Fin 24 → EReal) (kk : Nat) (d : Fin 24) : EReal := if rank a d < kk then 1 else 0

/-- The exponential of an element less the greatest one, kept where the rank is below `kk`. -/
def wt (a : Fin 24 → EReal) (kk : Nat) (d : Fin 24) : EReal := Ideal.exp (a d - top a) * keep a kk d

/-- One of the four terms: the kept exponential times its coefficient over the sum. -/
def term (a : Fin 24 → EReal) (kk : Nat) (c : EReal) (d : Fin 24) : EReal := wt a kk d * Ideal.div c (∑ e, wt a kk e)

/-- The four terms added, as the kernel adds them. -/
def comb (a : Fin 24 → EReal) (c : Fin 4 → EReal) (d : Fin 24) : EReal :=
  term a 12 (c 0) d + term a 16 (c 1) d + term a 18 (c 2) d + term a 19 (c 3) d

/-- A row with the elements of rank `kk` and above replaced by `⊥`. -/
def masked (a : Fin 24 → EReal) (kk : Nat) (d : Fin 24) : EReal := if rank a d < kk then a d else ⊥

/-- The softmax of the masked row, as the reference takes it. -/
def soft (a : Fin 24 → EReal) (kk : Nat) (d : Fin 24) : EReal :=
  Ideal.div (Ideal.exp (masked a kk d - top (masked a kk))) (∑ e, Ideal.exp (masked a kk e - top (masked a kk)))

/-! ## The greatest element -/

/-- Every element is at most the greatest one. -/
theorem le_top (a : Fin 24 → EReal) (d : Fin 24) : a d ≤ top a := by
  unfold top
  rw [Finset.le_fold_max]
  exact Or.inr ⟨d, Finset.mem_univ d, le_rfl⟩

/-- An element that no other exceeds is the greatest one. -/
theorem top_eq (a : Fin 24 → EReal) (d : Fin 24) (h : ∀ e, a e ≤ a d) : top a = a d := by
  refine le_antisymm ?_ (le_top a d)
  unfold top
  rw [Finset.fold_max_le]
  exact ⟨bot_le, fun e _ => h e⟩

/-- The masked row has the same greatest element. -/
theorem top_masked (a : Fin 24 → EReal) (kk : Nat) (hk : 0 < kk) : top (masked a kk) = top a := by
  obtain ⟨d, hd, h⟩ := exists_rank_zero a (by decide)
  rw [top_eq a d h, top_eq (masked a kk) d]
  · unfold masked; rw [if_pos (by omega)]
  · intro e
    unfold masked
    rw [if_pos (show rank a d < kk by omega)]
    split_ifs
    · exact h e
    · exact bot_le

/-! ## Real rows -/

/-- The greatest element of a real row. -/
def topR (a : Fin 24 → ℝ) : ℝ := (top fun d => (a d : EReal)).toReal

/-- The greatest element of a real row is real. -/
theorem top_coe (a : Fin 24 → ℝ) : top (fun d => (a d : EReal)) = (topR a : EReal) := by
  obtain ⟨d, -, h⟩ := exists_rank_zero (fun d => (a d : EReal)) (by decide)
  unfold topR
  rw [top_eq _ d h]
  rfl

/-- The kept exponentials of a real row. -/
def wtR (a : Fin 24 → ℝ) (kk : Nat) (d : Fin 24) : ℝ :=
  if rank (fun d => (a d : EReal)) d < kk then Real.exp (a d - topR a) else 0

/-- The kept exponentials of a real row are real. -/
theorem wt_coe (a : Fin 24 → ℝ) (kk : Nat) (d : Fin 24) : wt (fun d => (a d : EReal)) kk d = (wtR a kk d : EReal) := by
  unfold wt wtR keep
  rw [top_coe]
  split_ifs
  · rw [mul_one, ← EReal.coe_sub, Ideal.exp_coe]
  · rw [mul_zero, EReal.coe_zero]

/-- The exponentials of the masked row less its greatest element are the kept exponentials. -/
theorem exp_masked (a : Fin 24 → ℝ) (kk : Nat) (hk : 0 < kk) (d : Fin 24) :
    Ideal.exp (masked (fun d => (a d : EReal)) kk d - top (masked (fun d => (a d : EReal)) kk)) = (wtR a kk d : EReal) := by
  rw [top_masked _ _ hk, top_coe]
  unfold masked wtR
  split_ifs
  · rw [← EReal.coe_sub, Ideal.exp_coe]
  · rw [EReal.bot_sub, Ideal.exp_bot, EReal.coe_zero]

/-- A sum of reals taken among the extended reals is the real sum. -/
theorem coe_sum {ι : Type} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

/-- The sum of the kept exponentials is positive. -/
theorem sum_pos (a : Fin 24 → ℝ) (kk : Nat) (hk : 0 < kk) : 0 < ∑ e, wtR a kk e := by
  obtain ⟨d, hd, -⟩ := exists_rank_zero (fun d => (a d : EReal)) (by decide)
  refine Finset.sum_pos' (fun e _ => ?_) ⟨d, Finset.mem_univ d, ?_⟩
  · unfold wtR; split_ifs
    · exact (Real.exp_pos _).le
    · exact le_rfl
  · unfold wtR; rw [if_pos (by omega)]; exact Real.exp_pos _

/-- A term of a real row is real. -/
theorem term_coe (a : Fin 24 → ℝ) (kk : Nat) (hk : 0 < kk) (c : ℝ) (d : Fin 24) :
    term (fun d => (a d : EReal)) kk c d = ((wtR a kk d * (c / ∑ e, wtR a kk e) : ℝ) : EReal) := by
  unfold term
  simp only [wt_coe, coe_sum]
  rw [Ideal.div_coe (sum_pos a kk hk).ne', ← EReal.coe_mul, ← EReal.coe_mul, mul_one_div]

/-- An element of the masked softmax of a real row is a kept exponential over their sum. -/
theorem soft_coe (a : Fin 24 → ℝ) (kk : Nat) (hk : 0 < kk) (d : Fin 24) :
    soft (fun d => (a d : EReal)) kk d = ((wtR a kk d / ∑ e, wtR a kk e : ℝ) : EReal) := by
  unfold soft
  simp only [exp_masked a kk hk, coe_sum]
  rw [Ideal.div_coe (sum_pos a kk hk).ne', ← EReal.coe_mul, mul_one_div]

/-- The kernel's one product of the combined row with the values is the reference's four products, each times its
    coefficient, added. -/
theorem comb_eq (a : Fin 24 → ℝ) (c : Fin 4 → ℝ) (v : Fin 24 → ℝ) :
    ∑ d, comb (fun d => (a d : EReal)) (fun i => (c i : EReal)) d * (v d : EReal)
      = (∑ d, soft (fun d => (a d : EReal)) 12 d * (v d : EReal)) * (c 0 : EReal)
        + (∑ d, soft (fun d => (a d : EReal)) 16 d * (v d : EReal)) * (c 1 : EReal)
        + (∑ d, soft (fun d => (a d : EReal)) 18 d * (v d : EReal)) * (c 2 : EReal)
        + (∑ d, soft (fun d => (a d : EReal)) 19 d * (v d : EReal)) * (c 3 : EReal) := by
  unfold comb
  simp only [term_coe a 12 (by decide), term_coe a 16 (by decide), term_coe a 18 (by decide), term_coe a 19 (by decide),
    soft_coe a 12 (by decide), soft_coe a 16 (by decide), soft_coe a 18 (by decide), soft_coe a 19 (by decide),
    ← EReal.coe_add, ← EReal.coe_mul, coe_sum]
  congr 1
  simp only [Finset.sum_mul, ← Finset.sum_add_distrib]
  refine Finset.sum_congr rfl fun d _ => ?_
  ring

/-- The combined row is real. -/
theorem comb_coe (a : Fin 24 → ℝ) (c : Fin 4 → ℝ) (d : Fin 24) :
    ∃ r : ℝ, comb (fun d => (a d : EReal)) (fun i => (c i : EReal)) d = (r : EReal) := by
  unfold comb
  simp only [term_coe a 12 (by decide), term_coe a 16 (by decide), term_coe a 18 (by decide), term_coe a 19 (by decide),
    ← EReal.coe_add]
  exact ⟨_, rfl⟩

end Cert.Row
-- ==== Proof.RefSoftmax.lean ====
/-
  The reference's masked softmax read element by element: which positions a `top_k` marks, and the softmax of the row with
  the others at −∞.
-/
module

public import proofs.«01_k».proof.Proof.Gen.ReferenceIdeal.Read
public import proofs.«01_k».proof.Proof.RowMath
public import proofs.«01_k».proof.Proof.Basics

@[expose] public section

noncomputable section

namespace Cert.ReferenceIdeal.Softmax

open Cert.ReferenceIdeal Cert.ReferenceIdeal.Gen Cert.ReferenceIdeal.Read Idealize.ShloMosaic
open Cert.TopRank

/-- The literal for −∞. -/
theorem negInf : Ideal.ofBits .f32 0xFF800000#32 = ⊥ := by simp [Ideal.ofBits, Ideal.ieee]

/-- A row of the scores. -/
abbrev rowAt (A : FVec Ideal S2x8x24x24 .f32) (b : Fin 2) (h : Fin 8) (p : Fin 24) : Fin 24 → EReal := fun e => A (ix4 b h p e)

/-- The indices a `top_k` of the rows returns: the positions of the row sorted, greatest first. -/
theorem topK_apply {K : Nat} (A : FVec Ideal S2x8x24x24 .f32) (hf : S2x8x24x24.Slices (fun _ => 0) ⟨4, ![2, 8, 24, K]⟩) (hK : K ≤ 24)
    (b : Fin 2) (h : Fin 8) (p : Fin 24) (j : Fin K) :
    (Host.topK ⟨4, ![2, 8, 24, K]⟩ 3 (FloatOps.cmpfTotal (F := Ideal) (φ := .f32) .gt) A hf).2 (ix4 b h p j)
      = BitVec.ofNat 32 (sortedFrom (greater (rowAt A b h p)) ⟨j.val, by omega⟩).val := by
  have hg : (fun k k' : Fin 24 => FloatOps.cmpfTotal (F := Ideal) (φ := .f32) .gt (A (ix4 b h p k)) (A (ix4 b h p k')) == 1#1)
      = greater (rowAt A b h p) := by
    funext k k'
    rw [Ideal.cmpfTotal_def]
    unfold greater rowAt
    simp only [Ideal.cmp, CmpDirection.ordered]
    by_cases hlt : A (ix4 b h p k') < A (ix4 b h p k) <;> simp [hlt]
  have hal (q k : Fin 24) : Shape.Idx.along (s := S2x8x24x24) (ix4 b h p q) 3 k = ix4 b h p k := by
    funext a
    fin_cases a <;> rfl
  have hsl : (Host.topK ⟨4, ![2, 8, 24, K]⟩ 3 (FloatOps.cmpfTotal (F := Ideal) (φ := .f32) .gt) A hf).2 (ix4 b h p j)
      = (Host.sort2 S2x8x24x24 3 (fun l r => FloatOps.cmpfTotal (F := Ideal) (φ := .f32) .gt l.1 r.1) A
          (iotaInDim S2x8x24x24 32 3)).2 (ix4 b h p ⟨j.val, by omega⟩) := by
    show extractStridedSlice ⟨4, ![2, 8, 24, K]⟩ (fun _ => 0) (Host.sort2 S2x8x24x24 3
      (fun l r => FloatOps.cmpfTotal (F := Ideal) (φ := .f32) .gt l.1 r.1) A (iotaInDim S2x8x24x24 32 3)).2 hf (ix4 b h p j) = _
    refine extractStridedSlice_apply _ _ hf _ (ix4 b h p ⟨j.val, by omega⟩) (fun a => ?_)
    fin_cases a <;> exact (Nat.zero_add _).symm
  rw [hsl, ← hg]
  unfold Host.sort2
  rw [dif_pos (by decide : 3 < S2x8x24x24.rank)]
  have key (k : Fin 24) : BitVec.ofNat 32 (Shape.Idx.along (s := S2x8x24x24) (ix4 b h p ⟨j.val, by omega⟩) 3 k 3).val = BitVec.ofNat 32 k.val :=
    congrArg (BitVec.ofNat 32) (congrArg Fin.val (congrFun (hal _ k) 3))
  refine (key (sortedFrom (n := 24) (fun k k' => FloatOps.cmpfTotal (F := Ideal) (φ := .f32) .gt
      (A (Shape.Idx.along (s := S2x8x24x24) (ix4 b h p ⟨j.val, by omega⟩) 3 k))
      (A (Shape.Idx.along (s := S2x8x24x24) (ix4 b h p ⟨j.val, by omega⟩) 3 k')) == 1#1) ⟨j.val, by omega⟩)).trans ?_
  simp only [hal]

/-- The greatest element of a row. -/
theorem greatest_apply (M : FVec Ideal S2x8x24x24 .f32) (b : Fin 2) (h : Fin 8) (p : Fin 24) :
    Host.reduce FloatOps.maximumf M (val_main_cst_6 (F := Ideal)) reducesTo_S2x8x24x24_S2x8x24_d3 h_S_ (ix3 b h p)
      = Row.top (rowAt M b h p) := by
  have hd (y : S2x8x24x24.Idx) : reducesTo_S2x8x24x24_S2x8x24_d3.drop y = ix3 b h p ↔ ∃ e : Fin 24, y = ix4 b h p e := by
    have e0 := reducesTo_S2x8x24x24_S2x8x24_d3.drop_apply_val_of_eq y 0 0
    have e1 := reducesTo_S2x8x24x24_S2x8x24_d3.drop_apply_val_of_eq y 1 1
    have e2 := reducesTo_S2x8x24x24_S2x8x24_d3.drop_apply_val_of_eq y 2 2
    constructor
    · intro hy
      rw [hy] at e0 e1 e2
      refine ⟨y 3, ?_⟩
      funext a
      apply Fin.ext
      fin_cases a
      · exact e0.symm
      · exact e1.symm
      · exact e2.symm
      · rfl
    · rintro ⟨e, rfl⟩
      funext a
      apply Fin.ext
      fin_cases a
      · exact e0
      · exact e1
      · exact e2
  have hbot : val_main_cst_6 (F := Ideal) (Shape.Idx.first h_S_) = ⊥ := by
    unfold val_main_cst_6
    simp [constant, Ideal.ofBits, Ideal.ieee]
  rw [Host.reduce_eq_fold, hbot]
  apply le_antisymm
  · refine (Finset.fold_max_le _).mpr ⟨bot_le, fun y hy => ?_⟩
    obtain ⟨e, rfl⟩ := (hd y).mp (Finset.mem_filter.mp hy).2
    exact Row.le_top (rowAt M b h p) e
  · refine (Finset.fold_max_le _).mpr ⟨bot_le, fun e _ => ?_⟩
    exact (Finset.le_fold_max _).mpr (.inr ⟨ix4 b h p e, Finset.mem_filter.mpr ⟨Finset.mem_univ _, (hd _).mpr ⟨e, rfl⟩⟩, le_refl _⟩)

/-- The softmax along the last axis, as the reference writes it. -/
def softmax (M : FVec Ideal S2x8x24x24 .f32) : FVec Ideal S2x8x24x24 .f32 :=
  let E : FVec Ideal S2x8x24x24 .f32 := Host.exp (subf M (broadcastInDim S2x8x24x24 ![0, 1, 2, 3] bcast_S2x8x24x1_S2x8x24x24_0_1_2_3
    (broadcastInDim S2x8x24x1 ![0, 1, 2] bcast_S2x8x24_S2x8x24x1_0_1_2 (maximumf (val_main_v97 (F := Ideal))
      (Host.reduce FloatOps.maximumf M (val_main_cst_6 (F := Ideal)) reducesTo_S2x8x24x24_S2x8x24_d3 h_S_)))))
  Host.divf E (broadcastInDim S2x8x24x24 ![0, 1, 2, 3] bcast_S2x8x24x1_S2x8x24x24_0_1_2_3
    (broadcastInDim S2x8x24x1 ![0, 1, 2] bcast_S2x8x24_S2x8x24x1_0_1_2
      (Host.reduceAdd E (val_main_cst_8 (F := Ideal)) reducesTo_S2x8x24x24_S2x8x24_d3 h_S_)))

/-- An element of the softmax of a matrix of rows. -/
theorem softmax_apply (M : FVec Ideal S2x8x24x24 .f32) (b : Fin 2) (h : Fin 8) (p d : Fin 24) :
    softmax M (ix4 b h p d) = Ideal.div (Ideal.exp (M (ix4 b h p d) - Row.top (rowAt M b h p)))
      (∑ e, Ideal.exp (M (ix4 b h p e) - Row.top (rowAt M b h p))) := by
  unfold softmax
  have hm := greatest_apply M
  generalize Host.reduce FloatOps.maximumf M (val_main_cst_6 (F := Ideal)) reducesTo_S2x8x24x24_S2x8x24_d3 h_S_ = T at *
  pointwise [val_main_v97, val_main_cst_7, val_main_cst_8]
  simp only [negInf, hm, max_eq_right bot_le]

/-- The count of marks at a position is positive exactly where the position's rank is below `K`. -/
theorem hits {K : Nat} (hK : K ≤ 24) (a : Fin 24 → EReal) (d : Fin 24) :
    (0 : EReal) < (∑ j : Fin K, FloatOps.uitofp (F := Ideal) .f32
        (IntOp.cmpi .eq (BitVec.ofNat 32 (sortedFrom (greater a) ⟨j.val, by omega⟩).val) (BitVec.ofNat 32 d.val)))
      ↔ rank a d < K := by
  have hw (e : Fin 24) : FloatOps.uitofp (F := Ideal) .f32 (IntOp.cmpi .eq (BitVec.ofNat 32 e.val) (BitVec.ofNat 32 d.val))
      = if e = d then (1 : EReal) else 0 := by
    have h : (BitVec.ofNat 32 e.val = BitVec.ofNat 32 d.val) ↔ e = d := by
      rw [← BitVec.toNat_inj, BitVec.toNat_ofNat, BitVec.toNat_ofNat, Nat.mod_eq_of_lt (by omega), Nat.mod_eq_of_lt (by omega), Fin.ext_iff]
    unfold IntOp.cmpi
    by_cases hed : e = d
    · subst hed; simp [FloatOps.uitofp]
    · simp [FloatOps.uitofp, h, hed]
  simp only [hw]
  have hn (j : Fin K) : (0 : EReal) ≤ if sortedFrom (greater a) ⟨j.val, by omega⟩ = d then (1 : EReal) else 0 := by
    split_ifs
    · exact zero_le_one
    · exact le_refl _
  rw [← exists_sortedFrom_iff]
  constructor
  · intro hpos
    by_contra hno
    refine hpos.ne' (Finset.sum_eq_zero fun j _ => if_neg fun hj => hno ⟨⟨j.val, by omega⟩, j.isLt, hj⟩)
  · rintro ⟨k, hk, hkd⟩
    refine lt_of_lt_of_le zero_lt_one ((le_of_eq ?_).trans (Finset.single_le_sum (fun j _ => hn j) (Finset.mem_univ (⟨k.val, hk⟩ : Fin K))))
    rw [if_pos hkd]

/-- The softmax of a masked row. -/
theorem softmax_masked (M A : FVec Ideal S2x8x24x24 .f32) (K : Nat) (b : Fin 2) (h : Fin 8) (p : Fin 24)
    (hM : ∀ d, M (ix4 b h p d) = Row.masked (rowAt A b h p) K d) (d : Fin 24) :
    softmax M (ix4 b h p d) = Row.soft (rowAt A b h p) K d := by
  have hr : rowAt M b h p = Row.masked (rowAt A b h p) K := funext hM
  rw [softmax_apply, hr]
  simp only [hM]
  rfl

variable (x0 : (⟨S2x192x224x224, .f32⟩ : BufTy).Contents (Elt Ideal)) (x1 : (⟨S8x1x1, .f32⟩ : BufTy).Contents (Elt Ideal))
  (x2 : (⟨S576x192x1x1, .f32⟩ : BufTy).Contents (Elt Ideal)) (x3 : (⟨S576x1x3x3, .f32⟩ : BufTy).Contents (Elt Ideal))

/-- The softmax of the row kept at its 12 greatest elements. -/
theorem soft12 (b : Fin 2) (h : Fin 8) (p d : Fin 24) :
    val_main_v106 x0 x1 x2 x3 (ix4 b h p d) = Row.soft (rowAt (val_main_v89 x0 x1 x2 x3) b h p) 12 d := by
  have hs : val_main_v106 x0 x1 x2 x3 = softmax (val_main_v95 x0 x1 x2 x3) := rfl
  rw [hs]
  refine softmax_masked _ _ 12 b h p (fun d => ?_) d
  have hi := topK_apply (K := 12) (val_main_v89 x0 x1 x2 x3) sliceFits_S2x8x24x24_S2x8x24x12 (by decide) b h p
  unfold val_main_v95 val_main_v93 val_main_v91 val_main_v90 val_main_call3_v4 val_main_call3_v2 val_main_call3_v0 val_main_indices
  generalize val_main_v89 x0 x1 x2 x3 = A at *
  generalize (Host.topK S2x8x24x12 3 (FloatOps.cmpfTotal (F := Ideal) (φ := .f32) .gt) A sliceFits_S2x8x24x24_S2x8x24x12).2 = I at *
  pointwise [val_main_v94, val_main_cst_5, val_main_v92, val_main_cst_4, val_main_cst_3, val_main_call3_v3, val_main_call3_v1]
  simp only [hi, hits (K := 12) (by decide), negInf]
  rfl

/-- The softmax of the row kept at its 16 greatest elements. -/
theorem soft16 (b : Fin 2) (h : Fin 8) (p d : Fin 24) :
    val_main_v123 x0 x1 x2 x3 (ix4 b h p d) = Row.soft (rowAt (val_main_v89 x0 x1 x2 x3) b h p) 16 d := by
  have hs : val_main_v123 x0 x1 x2 x3 = softmax (val_main_v112 x0 x1 x2 x3) := rfl
  rw [hs]
  refine softmax_masked _ _ 16 b h p (fun d => ?_) d
  have hi := topK_apply (K := 16) (val_main_v89 x0 x1 x2 x3) sliceFits_S2x8x24x24_S2x8x24x16 (by decide) b h p
  unfold val_main_v112 val_main_v110 val_main_v108 val_main_v107 val_main_call5_v4 val_main_call5_v2 val_main_call5_v0 val_main_indices_10
  generalize val_main_v89 x0 x1 x2 x3 = A at *
  generalize (Host.topK S2x8x24x16 3 (FloatOps.cmpfTotal (F := Ideal) (φ := .f32) .gt) A sliceFits_S2x8x24x24_S2x8x24x16).2 = I at *
  pointwise [val_main_v111, val_main_cst_13, val_main_v109, val_main_cst_12, val_main_cst_11, val_main_call5_v3, val_main_call5_v1]
  simp only [hi, hits (K := 16) (by decide), negInf]
  rfl

/-- The softmax of the row kept at its 18 greatest elements. -/
theorem soft18 (b : Fin 2) (h : Fin 8) (p d : Fin 24) :
    val_main_v140 x0 x1 x2 x3 (ix4 b h p d) = Row.soft (rowAt (val_main_v89 x0 x1 x2 x3) b h p) 18 d := by
  have hs : val_main_v140 x0 x1 x2 x3 = softmax (val_main_v129 x0 x1 x2 x3) := rfl
  rw [hs]
  refine softmax_masked _ _ 18 b h p (fun d => ?_) d
  have hi := topK_apply (K := 18) (val_main_v89 x0 x1 x2 x3) sliceFits_S2x8x24x24_S2x8x24x18 (by decide) b h p
  unfold val_main_v129 val_main_v127 val_main_v125 val_main_v124 val_main_call7_v4 val_main_call7_v2 val_main_call7_v0 val_main_indices_18
  generalize val_main_v89 x0 x1 x2 x3 = A at *
  generalize (Host.topK S2x8x24x18 3 (FloatOps.cmpfTotal (F := Ideal) (φ := .f32) .gt) A sliceFits_S2x8x24x24_S2x8x24x18).2 = I at *
  pointwise [val_main_v128, val_main_cst_21, val_main_v126, val_main_cst_20, val_main_cst_19, val_main_call7_v3, val_main_call7_v1]
  simp only [hi, hits (K := 18) (by decide), negInf]
  rfl

/-- The softmax of the row kept at its 19 greatest elements. -/
theorem soft19 (b : Fin 2) (h : Fin 8) (p d : Fin 24) :
    val_main_v157 x0 x1 x2 x3 (ix4 b h p d) = Row.soft (rowAt (val_main_v89 x0 x1 x2 x3) b h p) 19 d := by
  have hs : val_main_v157 x0 x1 x2 x3 = softmax (val_main_v146 x0 x1 x2 x3) := rfl
  rw [hs]
  refine softmax_masked _ _ 19 b h p (fun d => ?_) d
  have hi := topK_apply (K := 19) (val_main_v89 x0 x1 x2 x3) sliceFits_S2x8x24x24_S2x8x24x19 (by decide) b h p
  unfold val_main_v146 val_main_v144 val_main_v142 val_main_v141 val_main_call9_v4 val_main_call9_v2 val_main_call9_v0 val_main_indices_26
  generalize val_main_v89 x0 x1 x2 x3 = A at *
  generalize (Host.topK S2x8x24x19 3 (FloatOps.cmpfTotal (F := Ideal) (φ := .f32) .gt) A sliceFits_S2x8x24x24_S2x8x24x19).2 = I at *
  pointwise [val_main_v145, val_main_cst_29, val_main_v143, val_main_cst_28, val_main_cst_27, val_main_call9_v3, val_main_call9_v1]
  simp only [hi, hits (K := 19) (by decide), negInf]
  rfl

end Cert.ReferenceIdeal.Softmax
-- ==== Proof.RefOutput.lean ====
/-
  The reference's second half read element by element: the scores from the convolved channels, the four softmaxes times the
  values, the exact GELU, the doubling and the projection.
-/
module

public import proofs.«01_k».proof.Proof.RefSoftmax

@[expose] public section

noncomputable section

namespace Cert.ReferenceIdeal.Output

open Cert.ReferenceIdeal Cert.ReferenceIdeal.Gen Cert.ReferenceIdeal.Read Idealize.ShloMosaic
open Cert.ReferenceIdeal.Softmax

variable (x0 : (⟨S2x192x224x224, .f32⟩ : BufTy).Contents (Elt Ideal)) (x1 : (⟨S8x1x1, .f32⟩ : BufTy).Contents (Elt Ideal))
  (x2 : (⟨S576x192x1x1, .f32⟩ : BufTy).Contents (Elt Ideal)) (x3 : (⟨S576x1x3x3, .f32⟩ : BufTy).Contents (Elt Ideal))
  (x4 : (⟨S192x192x1x1, .f32⟩ : BufTy).Contents (Elt Ideal)) (x5 x6 x7 x8 : (⟨S1, .f32⟩ : BufTy).Contents (Elt Ideal))

/-- A third of the convolved channels, by head, channel of the head and pixel. -/
def part (C : S2x576x112x112.Idx → EReal) (off : Nat) (ho : off ≤ 384) (b : Fin 2) (h : Fin 8) (c : Fin 24) (z : Fin 12544) : EReal :=
  C (ix4 b ⟨off + (h.val * 24 + c.val), by omega⟩ ⟨z.val / 112, by omega⟩ ⟨z.val % 112, by omega⟩)

/-- The queries are the first third of the convolved channels. -/
theorem queries (b : Fin 2) (h : Fin 8) (c : Fin 24) (z : Fin 12544) :
    val_main_v73 x0 x2 x3 (ix4 b h c z) = part (val_main_v69 x0 x2 x3) 0 (by decide) b h c z := by
  unfold val_main_v73 val_main_v70
  generalize val_main_v69 x0 x2 x3 = C
  pointwise [part]

/-- The keys are the second third of the convolved channels. -/
theorem keys (b : Fin 2) (h : Fin 8) (c : Fin 24) (z : Fin 12544) :
    val_main_v74 x0 x2 x3 (ix4 b h c z) = part (val_main_v69 x0 x2 x3) 192 (by decide) b h c z := by
  unfold val_main_v74 val_main_v71
  generalize val_main_v69 x0 x2 x3 = C
  pointwise [part]

/-- The values are the last third of the convolved channels. -/
theorem values (b : Fin 2) (h : Fin 8) (c : Fin 24) (z : Fin 12544) :
    val_main_v75 x0 x2 x3 (ix4 b h c z) = part (val_main_v69 x0 x2 x3) 384 (by decide) b h c z := by
  unfold val_main_v75 val_main_v72
  generalize val_main_v69 x0 x2 x3 = C
  pointwise [part]

/-- A row's length as the normalisation takes it. -/
def norm (q : Fin 12544 → EReal) : EReal := max (Ideal.sqrt (∑ z, q z * q z)) (Ideal.ofBits .f32 0x2B8CBCCC#32)

/-- The score of a query and a key: the product of the two normalised rows, times the temperature. -/
def score (q k : Fin 12544 → EReal) (t : EReal) : EReal := (∑ z, Ideal.div (q z) (norm q) * Ideal.div (k z) (norm k)) * t

/-- A sum started at zero is the sum. -/
theorem sum_from_zero {n : Nat} (z0 : EReal) (hz : z0 = 0) (f g : Fin n → EReal) (h : ∀ k, f k = g k) :
    z0 + ∑ k, f k = ∑ k, g k := by
  rw [hz, zero_add]
  exact Finset.sum_congr rfl fun k _ => h k

/-- The sum of the squares of a row of queries. -/
theorem query_squares (b : Fin 2) (h : Fin 8) (c : Fin 24) :
    val_main_call1_v2 x0 x2 x3 (ix4 b h c 0) = ∑ z, val_main_v73 x0 x2 x3 (ix4 b h c z) * val_main_v73 x0 x2 x3 (ix4 b h c z) := by
  have hk : ∀ k : Fin 12544, idx_main_call1_v1 (idx_main_call1_v2 (ix4 b h c 0)) k = ix4 b h c k := fun k => by
    funext a
    fin_cases a <;> rfl
  rw [val_main_call1_v2_apply, val_main_call1_v1_apply, val_main_call1_cst_apply]
  generalize hz : FloatOps.ofBits (F := Ideal) .f32 0x00000000#32 = z0
  refine sum_from_zero z0 (hz.symm.trans Ideal.ofBits_zero_f32) _ _ fun k => ?_
  rw [hk, val_main_call1_v0_apply]
  generalize val_main_v73 x0 x2 x3 (ix4 b h c k) = q
  rfl

/-- The length by which a row of queries is divided. -/
theorem query_norm (b : Fin 2) (h : Fin 8) (c : Fin 24) :
    val_main_v78 x0 x2 x3 (ix4 b h c 0) = norm (fun z => val_main_v73 x0 x2 x3 (ix4 b h c z)) := by
  rw [val_main_v78_apply, val_main_v76_apply, val_main_v77_apply, val_main_cst_1_apply, query_squares]
  unfold norm
  generalize (∑ z : Fin 12544, (_ : EReal)) = s
  rfl

/-- The sum of the squares of a row of keys. -/
theorem key_squares (b : Fin 2) (h : Fin 8) (c : Fin 24) :
    val_main_call2_v2 x0 x2 x3 (ix4 b h c 0) = ∑ z, val_main_v74 x0 x2 x3 (ix4 b h c z) * val_main_v74 x0 x2 x3 (ix4 b h c z) := by
  have hk : ∀ k : Fin 12544, idx_main_call2_v1 (idx_main_call2_v2 (ix4 b h c 0)) k = ix4 b h c k := fun k => by
    funext a
    fin_cases a <;> rfl
  rw [val_main_call2_v2_apply, val_main_call2_v1_apply, val_main_call2_cst_apply]
  generalize hz : FloatOps.ofBits (F := Ideal) .f32 0x00000000#32 = z0
  refine sum_from_zero z0 (hz.symm.trans Ideal.ofBits_zero_f32) _ _ fun k => ?_
  rw [hk, val_main_call2_v0_apply]
  generalize val_main_v74 x0 x2 x3 (ix4 b h c k) = q
  rfl

/-- The length by which a row of keys is divided. -/
theorem key_norm (b : Fin 2) (h : Fin 8) (c : Fin 24) :
    val_main_v83 x0 x2 x3 (ix4 b h c 0) = norm (fun z => val_main_v74 x0 x2 x3 (ix4 b h c z)) := by
  rw [val_main_v83_apply, val_main_v81_apply, val_main_v82_apply, val_main_cst_2_apply, key_squares]
  unfold norm
  generalize (∑ z : Fin 12544, (_ : EReal)) = s
  rfl

/-- A normalised query is the query over its row’s length. -/
theorem normalised_query (b : Fin 2) (h : Fin 8) (c : Fin 24) (z : Fin 12544) :
    val_main_v80 x0 x2 x3 (ix4 b h c z) = Ideal.div (val_main_v73 x0 x2 x3 (ix4 b h c z)) (val_main_v78 x0 x2 x3 (ix4 b h c 0)) := by
  unfold val_main_v80 val_main_v79
  generalize val_main_v73 x0 x2 x3 = Q
  generalize val_main_v78 x0 x2 x3 = N
  pointwise

/-- A normalised key is the key over its row’s length. -/
theorem normalised_key (b : Fin 2) (h : Fin 8) (c : Fin 24) (z : Fin 12544) :
    val_main_v85 x0 x2 x3 (ix4 b h c z) = Ideal.div (val_main_v74 x0 x2 x3 (ix4 b h c z)) (val_main_v83 x0 x2 x3 (ix4 b h c 0)) := by
  unfold val_main_v85 val_main_v84
  generalize val_main_v74 x0 x2 x3 = Q
  generalize val_main_v83 x0 x2 x3 = N
  pointwise

/-- A scaled product is the sum over the pixels of normalised query times normalised key, times the temperature. -/
theorem products (b : Fin 2) (h : Fin 8) (p e : Fin 24) :
    val_main_v89 x0 x1 x2 x3 (ix4 b h p e)
      = (∑ z : Fin 12544, val_main_v80 x0 x2 x3 (ix4 b h p z) * val_main_v85 x0 x2 x3 (ix4 b h e z)) * x1 (ix3 h 0 0) := by
  unfold val_main_v89 val_main_v86
  generalize val_main_v80 x0 x2 x3 = Q
  generalize val_main_v85 x0 x2 x3 = K
  pointwise [val_main_v88, val_main_v87]

/-- The scaled product matrix of a head holds the scores of its queries and keys. -/
theorem scores (b : Fin 2) (h : Fin 8) (p e : Fin 24) :
    val_main_v89 x0 x1 x2 x3 (ix4 b h p e)
      = score (part (val_main_v69 x0 x2 x3) 0 (by decide) b h p) (part (val_main_v69 x0 x2 x3) 192 (by decide) b h e) (x1 (ix3 h 0 0)) := by
  rw [products]
  simp only [normalised_query, normalised_key, query_norm, key_norm, queries, keys]
  rfl

/-- The four softmaxes times the values, added with the four weights. -/
theorem combined (b : Fin 2) (h : Fin 8) (p : Fin 24) (z : Fin 12544) :
    val_main_v176 x0 x1 x2 x3 x5 x6 x7 x8 (ix4 b h p z)
      = (∑ d, Row.soft (rowAt (val_main_v89 x0 x1 x2 x3) b h p) 12 d * part (val_main_v69 x0 x2 x3) 384 (by decide) b h d z) * x5 (ix1 0)
        + (∑ d, Row.soft (rowAt (val_main_v89 x0 x1 x2 x3) b h p) 16 d * part (val_main_v69 x0 x2 x3) 384 (by decide) b h d z) * x6 (ix1 0)
        + (∑ d, Row.soft (rowAt (val_main_v89 x0 x1 x2 x3) b h p) 18 d * part (val_main_v69 x0 x2 x3) 384 (by decide) b h d z) * x7 (ix1 0)
        + (∑ d, Row.soft (rowAt (val_main_v89 x0 x1 x2 x3) b h p) 19 d * part (val_main_v69 x0 x2 x3) 384 (by decide) b h d z) * x8 (ix1 0) := by
  have h12 := soft12 x0 x1 x2 x3 b h p
  have h16 := soft16 x0 x1 x2 x3 b h p
  have h18 := soft18 x0 x1 x2 x3 b h p
  have h19 := soft19 x0 x1 x2 x3 b h p
  have hv := values x0 x2 x3 b h
  unfold val_main_v176 val_main_v175 val_main_v172 val_main_v171 val_main_v168 val_main_v167 val_main_v164
    val_main_v161 val_main_v160 val_main_v159 val_main_v158
  generalize val_main_v106 x0 x1 x2 x3 = A12 at *
  generalize val_main_v123 x0 x1 x2 x3 = A16 at *
  generalize val_main_v140 x0 x1 x2 x3 = A18 at *
  generalize val_main_v157 x0 x1 x2 x3 = A19 at *
  generalize val_main_v75 x0 x2 x3 = V at *
  pointwise [val_main_v174, val_main_v173, val_main_v170, val_main_v169, val_main_v166, val_main_v165, val_main_v163, val_main_v162]
  simp only [h12, h16, h18, h19, hv]

/-- The exact GELU as the reference writes it. -/
def gelu (t : EReal) : EReal :=
  (Ideal.ofBits .f32 0x3F000000#32 * t) * Ideal.erfc (Ideal.div (-t) (Ideal.sqrt (Ideal.ofBits .f32 0x40000000#32)))

/-- The combined rows laid out as channels, rows and columns. -/
theorem unflattened (b : Fin 2) (p : Fin 192) (r c : Fin 112) :
    val_main_v177 x0 x1 x2 x3 x5 x6 x7 x8 (ix4 b p r c) = val_main_v176 x0 x1 x2 x3 x5 x6 x7 x8
      (ix4 b ⟨p.val / 24, by omega⟩ ⟨p.val % 24, by omega⟩ ⟨r.val * 112 + c.val, by omega⟩) := by
  unfold val_main_v177
  generalize val_main_v176 x0 x1 x2 x3 x5 x6 x7 x8 = A
  pointwise

/-- The activation of an element is its GELU. -/
theorem activated (b : Fin 2) (p : Fin 192) (r c : Fin 112) :
    val_main_v185 x0 x1 x2 x3 x5 x6 x7 x8 (ix4 b p r c) = gelu (val_main_v177 x0 x1 x2 x3 x5 x6 x7 x8 (ix4 b p r c)) := by
  rw [val_main_v185_apply, val_main_v184_apply, val_main_v183_apply, val_main_v180_apply, val_main_v179_apply, val_main_v182_apply,
    val_main_v181_apply, val_main_v178_apply, val_main_cst_33_apply, val_main_cst_34_apply]
  generalize val_main_v177 x0 x1 x2 x3 x5 x6 x7 x8 (ix4 b p r c) = t
  rfl

/-- Doubling the rows reads row `i / 2`. -/
theorem rows_doubled (b : Fin 2) (p : Fin 192) (i : Fin 224) (c : Fin 112) :
    val_main_v187 x0 x1 x2 x3 x5 x6 x7 x8 (ix4 b p i c) = val_main_v185 x0 x1 x2 x3 x5 x6 x7 x8 (ix4 b p ⟨i.val / 2, by omega⟩ c) := by
  unfold val_main_v187 val_main_v186
  generalize val_main_v185 x0 x1 x2 x3 x5 x6 x7 x8 = A
  pointwise

/-- Doubling the columns reads column `q / 2`. -/
theorem doubled (b : Fin 2) (p : Fin 192) (i q : Fin 224) :
    val_main_v189 x0 x1 x2 x3 x5 x6 x7 x8 (ix4 b p i q) = val_main_v187 x0 x1 x2 x3 x5 x6 x7 x8 (ix4 b p i ⟨q.val / 2, by omega⟩) := by
  unfold val_main_v189 val_main_v188
  generalize val_main_v187 x0 x1 x2 x3 x5 x6 x7 x8 = A
  pointwise

/-- The projection: a sum over the channels of weight times doubled activation. -/
theorem projected (b : Fin 2) (o : Fin 192) (i q : Fin 224) :
    val_main_v192 x0 x1 x2 x3 x4 x5 x6 x7 x8 (ix4 b o i q)
      = ∑ p : Fin 192, x4 (ix4 o p 0 0) * val_main_v189 x0 x1 x2 x3 x5 x6 x7 x8 (ix4 b p i q) := by
  unfold val_main_v192 val_main_v191
  generalize val_main_v189 x0 x1 x2 x3 x5 x6 x7 x8 = A
  pointwise [val_main_v190]

/-- The result at one pixel: the projection of the GELU of the combined values at the pixel halved. -/
theorem result (b : Fin 2) (o : Fin 192) (i q : Fin 224) :
    val_main_v192 x0 x1 x2 x3 x4 x5 x6 x7 x8 (ix4 b o i q)
      = ∑ p : Fin 192, x4 (ix4 o p 0 0) * gelu (val_main_v176 x0 x1 x2 x3 x5 x6 x7 x8
          (ix4 b ⟨p.val / 24, by omega⟩ ⟨p.val % 24, by omega⟩ ⟨i.val / 2 * 112 + q.val / 2, by omega⟩)) := by
  rw [projected]
  simp only [doubled, rows_doubled, activated, unflattened]

end Cert.ReferenceIdeal.Output
-- ==== Proof.Output.lean ====
/-
  The fourth pallas_call of the kernel (attention times values, GELU, doubling, projection): what one block of it computes,
  and what the program's result array holds.
-/
module

public import proofs.«01_k».proof.Proof.Gen.KernelIdeal.Frame
public import proofs.«01_k».proof.Proof.Basics

@[expose] public section

noncomputable section

namespace Cert.KernelIdeal.Output

open Cert.KernelIdeal Cert.KernelIdeal.Gen Idealize.ShloMosaic Idealize.ShloMosaic.TcCoe Idealize.SL.Sem
open Cert.Basics

/-- Three written zeros are the zero offset. -/
theorem hz3 : (![0, 0, 0] : Fin 3 → Nat) = fun _ => 0 := funext fun a => by fin_cases a <;> rfl
/-- Two written zeros are the zero offset. -/
theorem hz2 : (![0, 0] : Fin 2 → Nat) = fun _ => 0 := funext fun a => by fin_cases a <;> rfl

/-! ## One line -/

/-- What is stored for one line of the values, of the attention block, the projection and the line. -/
def line (x0 : Vec Ideal S1x192x192 .f32) (x2 : Vec Ideal S192x192 .f32) (w : Vec Ideal S1x192x1x112 .f32) : FVec Ideal S1x192x1x224 .f32 :=
  k3_pay13 (k3_pay3 x0) (k3_pay4 x2) k3_pay5 w

/-- The whole part of a column's number halved, as the kernel takes it on words. -/
theorem half : ∀ q : Fin 224,
    (Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 2#32 0#32))
            (Scalar.extui (Scalar.cmpi CmpIPredicate.slt 2#32 0#32))))
        (IntOp.cmpi CmpIPredicate.ne (IntOp.remsi ArithUnit.vector (BitVec.ofNat 32 q.val) 2#32) 0#32))
      (IntOp.subi (IntOp.divsi ArithUnit.vector (BitVec.ofNat 32 q.val) 2#32) 1#32)
      (IntOp.divsi ArithUnit.vector (BitVec.ofNat 32 q.val) 2#32) : BitVec 32) = BitVec.ofNat 32 (q.val / 2) := by
  decide +kernel

/-- The matrix that doubles the columns: 1 where the row is the column halved. -/
theorem dup (i : Fin 112) (q : Fin 224) : k3_pay5 (F := Ideal) (ix2 i q) = if i.val = q.val / 2 then 1 else 0 := by
  pointwise [k3_pay5]
  rw [half, sitofp_eq]
  have h : (BitVec.ofNat 32 i.val = BitVec.ofNat 32 (q.val / 2)) ↔ i.val = q.val / 2 := by
    rw [← BitVec.toNat_inj, BitVec.toNat_ofNat, BitVec.toNat_ofNat, Nat.mod_eq_of_lt (by omega), Nat.mod_eq_of_lt (by omega)]
  simp only [h]

/-- The kernel's constant, 1 / √2. -/
theorem inv_sqrt2 : Named.named (F := Ideal) Cert.KernelIdeal.κ "inv_sqrt2" (φ := .f32) 0x3F3504F3#32 = (((Real.sqrt 2)⁻¹ : ℝ) : EReal) :=
  IdealRules.named_const.ideal_named_scalar _ _ _ _ rfl

/-- The exact GELU as the kernel writes it. -/
def gelu (t : EReal) : EReal :=
  (Ideal.ofBits .f32 0x3F000000#32 * t) * (1 + Ideal.erf (t * (((Real.sqrt 2)⁻¹ : ℝ) : EReal)))

/-- An element of a stored line is the projection of the GELU of the attention times the values, at half its column. -/
theorem line_apply (x0 : Vec Ideal S1x192x192 .f32) (x2 : Vec Ideal S192x192 .f32) (w : Vec Ideal S1x192x1x112 .f32) (o : Fin 192) (q : Fin 224) :
    line x0 x2 w (ix4 0 o 0 q)
      = ∑ p, x2 (ix2 o p) * gelu (∑ z, x0 (ix3 0 p z) * w (ix4 0 z 0 ⟨q.val / 2, by omega⟩)) := by
  unfold line
  have hd := dup
  generalize k3_pay5 (F := Ideal) = D at *
  pointwise [k3_pay13, k3_pay12, k3_pay3, k3_pay4]
  simp only [hd]
  rw [sum_mul_ite_nat _ (q.val / 2) (by omega), inv_sqrt2]
  rfl

/-! ## One block -/

/-- What a block of the result holds, from the blocks of the attention matrix, the values and the projection. -/
def block (x0 : Vec Ideal S1x192x192 .f32) (x1 : Vec Ideal S1x192x16x112 .f32) (x2 : Vec Ideal S192x192 .f32) :
    Vec Ideal S1x192x32x224 .f32 := fun y =>
  ∑ p, x2 (ix2 (y 1) p) * gelu (∑ z, x0 (ix3 0 p z) * x1 (ix4 0 z ⟨(y 2).val / 2, by have h : (y 2).val < 32 := (y 2).isLt; omega⟩
    ⟨(y 3).val / 2, by have h : (y 3).val < 224 := (y 3).isLt; omega⟩))

/-- A store at row `i` of the block writes the block's row, from line `r = i / 2` of the values. -/
theorem piece (x0 : Vec Ideal S1x192x192 .f32) (x1 : Vec Ideal S1x192x16x112 .f32) (x2 : Vec Ideal S192x192 .f32) (r i : Nat) (hr : i / 2 = r)
    (h1 : ∀ a, (![0, 0, r, 0] : Fin 4 → Nat) a + S1x192x1x112.size a ≤ S1x192x16x112.size a)
    (h2 : ∀ a, (![0, 0, i, 0] : Fin 4 → Nat) a + S1x192x1x224.size a ≤ S1x192x32x224.size a)
    (z : S1x192x1x224.Idx) :
    line x0 x2 (View.ld x1 (Rect.unit (s := S1x192x16x112) ![0, 0, r, 0] S1x192x1x112.size h1)) z
      = block x0 x1 x2 ((Rect.unit (s := S1x192x32x224) ![0, 0, i, 0] S1x192x1x224.size h2).emb z) := by
  subst hr
  obtain ⟨o, q, rfl⟩ : ∃ (o : Fin 192) (q : Fin 224), z = ix4 0 o 0 q :=
    ⟨z 1, z 3, by rw [eq_ix4 z]; congr 1; exacts [Subsingleton.elim _ _, Subsingleton.elim _ _]⟩
  have he : (Rect.unit (s := S1x192x32x224) ![0, 0, i, 0] S1x192x1x224.size h2).emb (ix4 0 o 0 q)
      = ix4 0 o ⟨i, by have h : i + 1 ≤ 32 := h2 2; omega⟩ q := by
    funext a
    apply Fin.ext
    rw [Rect.emb_apply]
    fin_cases a <;> simp [ix4]
  rw [line_apply, he]
  simp only [block]
  pointwise

/-- The stores of one grid point, last first: every line twice. -/
theorem out_pieces (x0 : Vec Ideal S1x192x192 .f32) (x1 : Vec Ideal S1x192x16x112 .f32) (x2 : Vec Ideal S192x192 .f32) :
    out3_3 x0 x1 x2 = View.canon (
      let L := line (View.ld x0 r3_0) (View.ld x2 r3_1)
      [⟨r3_49, L (View.ld x1 r3_47)⟩, ⟨r3_48, L (View.ld x1 r3_47)⟩,
       ⟨r3_46, L (View.ld x1 r3_44)⟩, ⟨r3_45, L (View.ld x1 r3_44)⟩,
       ⟨r3_43, L (View.ld x1 r3_41)⟩, ⟨r3_42, L (View.ld x1 r3_41)⟩,
       ⟨r3_40, L (View.ld x1 r3_38)⟩, ⟨r3_39, L (View.ld x1 r3_38)⟩,
       ⟨r3_37, L (View.ld x1 r3_35)⟩, ⟨r3_36, L (View.ld x1 r3_35)⟩,
       ⟨r3_34, L (View.ld x1 r3_32)⟩, ⟨r3_33, L (View.ld x1 r3_32)⟩,
       ⟨r3_31, L (View.ld x1 r3_29)⟩, ⟨r3_30, L (View.ld x1 r3_29)⟩,
       ⟨r3_28, L (View.ld x1 r3_26)⟩, ⟨r3_27, L (View.ld x1 r3_26)⟩,
       ⟨r3_25, L (View.ld x1 r3_23)⟩, ⟨r3_24, L (View.ld x1 r3_23)⟩,
       ⟨r3_22, L (View.ld x1 r3_20)⟩, ⟨r3_21, L (View.ld x1 r3_20)⟩,
       ⟨r3_19, L (View.ld x1 r3_17)⟩, ⟨r3_18, L (View.ld x1 r3_17)⟩,
       ⟨r3_16, L (View.ld x1 r3_14)⟩, ⟨r3_15, L (View.ld x1 r3_14)⟩,
       ⟨r3_13, L (View.ld x1 r3_11)⟩, ⟨r3_12, L (View.ld x1 r3_11)⟩,
       ⟨r3_10, L (View.ld x1 r3_8)⟩, ⟨r3_9, L (View.ld x1 r3_8)⟩,
       ⟨r3_7, L (View.ld x1 r3_5)⟩, ⟨r3_6, L (View.ld x1 r3_5)⟩,
       ⟨r3_4, L (View.ld x1 r3_2)⟩, ⟨r3_3, L (View.ld x1 r3_2)⟩]) := rfl

/-- They leave `block` in it. -/
theorem out_eq (x0 : Vec Ideal S1x192x192 .f32) (x1 : Vec Ideal S1x192x16x112 .f32) (x2 : Vec Ideal S192x192 .f32) :
    out3_3 x0 x1 x2 = block x0 x1 x2 := by
  funext y
  have e0 : View.ld x0 r3_0 = x0 := View.ld_unit_zero hz3 inb_S1x192x192_S1x192x192_0_0_0 x0
  have e2 : View.ld x2 r3_1 = x2 := View.ld_unit_zero hz2 inb_S192x192_S192x192_0_0 x2
  have hL : line (View.ld x0 r3_0) (View.ld x2 r3_1) = line x0 x2 := congrArg₂ line e0 e2
  rw [out_pieces, hL]
  have P := piece x0 x1 x2
  refine View.canon_apply_of_pieces (block x0 x1 x2) _ ?_ y (cover3_3 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact P 15 31 rfl (by decide) inb_S1x192x32x224_S1x192x1x224_0_0_31_0
  · exact P 15 30 rfl (by decide) inb_S1x192x32x224_S1x192x1x224_0_0_30_0
  · exact P 14 29 rfl (by decide) inb_S1x192x32x224_S1x192x1x224_0_0_29_0
  · exact P 14 28 rfl (by decide) inb_S1x192x32x224_S1x192x1x224_0_0_28_0
  · exact P 13 27 rfl (by decide) inb_S1x192x32x224_S1x192x1x224_0_0_27_0
  · exact P 13 26 rfl (by decide) inb_S1x192x32x224_S1x192x1x224_0_0_26_0
  · exact P 12 25 rfl (by decide) inb_S1x192x32x224_S1x192x1x224_0_0_25_0
  · exact P 12 24 rfl (by decide) inb_S1x192x32x224_S1x192x1x224_0_0_24_0
  · exact P 11 23 rfl (by decide) inb_S1x192x32x224_S1x192x1x224_0_0_23_0
  · exact P 11 22 rfl (by decide) inb_S1x192x32x224_S1x192x1x224_0_0_22_0
  · exact P 10 21 rfl (by decide) inb_S1x192x32x224_S1x192x1x224_0_0_21_0
  · exact P 10 20 rfl (by decide) inb_S1x192x32x224_S1x192x1x224_0_0_20_0
  · exact P 9 19 rfl (by decide) inb_S1x192x32x224_S1x192x1x224_0_0_19_0
  · exact P 9 18 rfl (by decide) inb_S1x192x32x224_S1x192x1x224_0_0_18_0
  · exact P 8 17 rfl (by decide) inb_S1x192x32x224_S1x192x1x224_0_0_17_0
  · exact P 8 16 rfl (by decide) inb_S1x192x32x224_S1x192x1x224_0_0_16_0
  · exact P 7 15 rfl (by decide) inb_S1x192x32x224_S1x192x1x224_0_0_15_0
  · exact P 7 14 rfl (by decide) inb_S1x192x32x224_S1x192x1x224_0_0_14_0
  · exact P 6 13 rfl (by decide) inb_S1x192x32x224_S1x192x1x224_0_0_13_0
  · exact P 6 12 rfl (by decide) inb_S1x192x32x224_S1x192x1x224_0_0_12_0
  · exact P 5 11 rfl (by decide) inb_S1x192x32x224_S1x192x1x224_0_0_11_0
  · exact P 5 10 rfl (by decide) inb_S1x192x32x224_S1x192x1x224_0_0_10_0
  · exact P 4 9 rfl (by decide) inb_S1x192x32x224_S1x192x1x224_0_0_9_0
  · exact P 4 8 rfl (by decide) inb_S1x192x32x224_S1x192x1x224_0_0_8_0
  · exact P 3 7 rfl (by decide) inb_S1x192x32x224_S1x192x1x224_0_0_7_0
  · exact P 3 6 rfl (by decide) inb_S1x192x32x224_S1x192x1x224_0_0_6_0
  · exact P 2 5 rfl (by decide) inb_S1x192x32x224_S1x192x1x224_0_0_5_0
  · exact P 2 4 rfl (by decide) inb_S1x192x32x224_S1x192x1x224_0_0_4_0
  · exact P 1 3 rfl (by decide) inb_S1x192x32x224_S1x192x1x224_0_0_3_0
  · exact P 1 2 rfl (by decide) inb_S1x192x32x224_S1x192x1x224_0_0_2_0
  · exact P 0 1 rfl (by decide) inb_S1x192x32x224_S1x192x1x224_0_0_1_0
  · exact P 0 0 rfl (by decide) inb_S1x192x32x224_S1x192x1x224_0_0_0_0

/-! ## The array -/

/-- The whole result array, of the attention matrices, the convolved channels (the values' rows last) and the projection. -/
def output (A : S2x192x192.Idx → EReal) (C : S2x576x112x112.Idx → EReal) (w : S192x192.Idx → EReal) : S2x192x224x224.Idx → EReal := fun y =>
  ∑ p, w (ix2 (y 1) p) * gelu (∑ z : Fin 192, A (ix3 (y 0) p z) * C (ix4 (y 0) ⟨384 + z.val, by omega⟩
    ⟨(y 2).val / 2, by have h : (y 2).val < 224 := (y 2).isLt; omega⟩ ⟨(y 3).val / 2, by have h : (y 3).val < 224 := (y 3).isLt; omega⟩))

variable (V : (c : Dev nD) → (b : Ref sig .tc) → Buf (Elt Ideal) ((c : Thread nD τ).loc b))

/-- Where the blocks of the four windows lie at a grid point. -/
theorem index_eq : ∀ t : Fin cfg3.N,
    (win3_0.index t 0 = t.val / 7 ∧ win3_0.index t 1 = 0 ∧ win3_0.index t 2 = 0)
    ∧ (win3_1.index t 0 = t.val / 7 ∧ win3_1.index t 1 = 2 ∧ win3_1.index t 2 = t.val % 7 ∧ win3_1.index t 3 = 0)
    ∧ (win3_2.index t 0 = 0 ∧ win3_2.index t 1 = 0)
    ∧ (win3_3.index t 0 = t.val / 7 ∧ win3_3.index t 1 = 0 ∧ win3_3.index t 2 = t.val % 7 ∧ win3_3.index t 3 = 0) := by
  decide +kernel

/-- The batch element a grid point works on. -/
def batch (t : Fin cfg3.N) : Fin 2 := ⟨t.val / 7, by have h : t.val < 14 := lt_of_lt_of_eq t.isLt N_3; omega⟩

/-- The attention block, read off its array. -/
theorem iblk_A (c : Dev nD) (t : Fin cfg3.N) (a : Fin 1) (p z : Fin 192) :
    iblk3 V c 0 t (ix3 a p z) = V c main_call0_v14 (ix3 (batch t) p z) := by
  show V c main_call0_v14 ((win3_0.rect t).emb (ix3 a p z)) = _
  congr 1
  funext d
  apply Fin.ext
  rw [Pipeline.Window.rect_emb_val (w := win3_0) (hk := rfl)]
  obtain ⟨⟨e0, e1, e2⟩, -⟩ := index_eq t
  fin_cases d
  · show win3_0.index t 0 * 1 + a.val = t.val / 7
    omega
  · show win3_0.index t 1 * 192 + p.val = p.val
    omega
  · show win3_0.index t 2 * 192 + z.val = z.val
    omega

/-- The values' block, read off its array. -/
theorem iblk_C (c : Dev nD) (t : Fin cfg3.N) (a : Fin 1) (z : Fin 192) (r : Fin 16) (q : Fin 112) :
    iblk3 V c 1 t (ix4 a z r q) = V c main_call0_v12 (ix4 (batch t) ⟨384 + z.val, by omega⟩ ⟨16 * (t.val % 7) + r.val, by omega⟩ q) := by
  show V c main_call0_v12 ((win3_1.rect t).emb (ix4 a z r q)) = _
  congr 1
  funext d
  apply Fin.ext
  rw [Pipeline.Window.rect_emb_val (w := win3_1) (hk := rfl)]
  obtain ⟨-, ⟨e0, e1, e2, e3⟩, -⟩ := index_eq t
  fin_cases d
  · show win3_1.index t 0 * 1 + a.val = t.val / 7
    omega
  · show win3_1.index t 1 * 192 + z.val = 384 + z.val
    omega
  · show win3_1.index t 2 * 16 + r.val = 16 * (t.val % 7) + r.val
    omega
  · show win3_1.index t 3 * 112 + q.val = q.val
    omega

/-- The projection's block is its array. -/
theorem iblk_w (c : Dev nD) (t : Fin cfg3.N) (o p : Fin 192) :
    iblk3 V c 2 t (ix2 o p) = V c main_call0_v2 (ix2 o p) := by
  show V c main_call0_v2 ((win3_2.rect t).emb (ix2 o p)) = _
  congr 1
  funext d
  apply Fin.ext
  rw [Pipeline.Window.rect_emb_val (w := win3_2) (hk := rfl)]
  obtain ⟨-, -, ⟨e0, e1⟩, -⟩ := index_eq t
  fin_cases d
  · show win3_2.index t 0 * 192 + o.val = o.val
    omega
  · show win3_2.index t 1 * 192 + p.val = p.val
    omega

/-- What a grid point writes back is its block of `output`. -/
theorem flushed_eq (c : Dev nD) (t : Fin cfg3.N) :
    (dat3 V c).flushed 3 t
      = (win3_3.blk t).view.read (Elt Ideal) (output (V c main_call0_v14) (V c main_call0_v12) (V c main_call0_v2)) := by
  show (cfg3.win 3).cut (grid3.coords t) ((dat3 V c).after 3 t) = _
  rw [after3_3, out_eq]
  refine funext fun (y : S1x192x32x224.Idx) => ?_
  show block (iblk3 V c 0 t) (iblk3 V c 1 t) (iblk3 V c 2 t) y = output _ _ _ ((win3_3.rect t).emb y)
  have hy2 : (y 2).val < 32 := (y 2).isLt
  have he : (win3_3.rect t).emb y = ix4 (batch t) (y 1) ⟨32 * (t.val % 7) + (y 2).val, by omega⟩ (y 3) := by
    funext d
    apply Fin.ext
    rw [Pipeline.Window.rect_emb_val (w := win3_3) (hk := rfl)]
    obtain ⟨-, -, -, e0, e1, e2, e3⟩ := index_eq t
    have hy0 : (y 0).val < 1 := (y 0).isLt
    fin_cases d
    · show win3_3.index t 0 * 1 + (y 0).val = t.val / 7
      omega
    · show win3_3.index t 1 * 192 + (y 1).val = (y 1).val
      omega
    · show win3_3.index t 2 * 32 + (y 2).val = 32 * (t.val % 7) + (y 2).val
      omega
    · show win3_3.index t 3 * 224 + (y 3).val = (y 3).val
      omega
  rw [he]
  unfold block output
  have hw := fun p => iblk_w V c t (y 1) p
  simp only [iblk_A, iblk_C, hw]
  have h2 : (⟨16 * (t.val % 7) + (y 2).val / 2, by omega⟩ : Fin 112) = ⟨(32 * (t.val % 7) + (y 2).val) / 2, by omega⟩ :=
    Fin.ext (by show 16 * (t.val % 7) + (y 2).val / 2 = (32 * (t.val % 7) + (y 2).val) / 2; omega)
  rw [h2]
  rfl

/-- The blocks tile the array. -/
theorem cover (i : S2x192x224x224.Idx) :
    ∃ t : Fin cfg3.N, (cfg3.win 3).flush t = true ∧ i ∈ ((cfg3.win 3).blk t).view.set := by
  have h0 : (i 0).val < 2 := (i 0).isLt
  have h1 : (i 1).val < 192 := (i 1).isLt
  have h2 : (i 2).val < 224 := (i 2).isLt
  have h3 : (i 3).val < 224 := (i 3).isLt
  have hN : cfg3.N = 14 := N_3
  let t : Fin cfg3.N := ⟨7 * (i 0).val + (i 2).val / 32, by omega⟩
  refine ⟨t, flush3_3 _, ?_⟩
  show i ∈ ((View.whole main_v0).slice (win3_3.rect t)).set
  rw [View.set_slice_whole, Rect.mem_set_unit]
  obtain ⟨-, -, -, e0, e1, e2, e3⟩ := index_eq t
  have ht : t.val = 7 * (i 0).val + (i 2).val / 32 := rfl
  intro a
  fin_cases a
  · show win3_3.index t 0 * 1 ≤ (i 0).val ∧ (i 0).val < win3_3.index t 0 * 1 + 1
    omega
  · show win3_3.index t 1 * 192 ≤ (i 1).val ∧ (i 1).val < win3_3.index t 1 * 192 + 192
    omega
  · show win3_3.index t 2 * 32 ≤ (i 2).val ∧ (i 2).val < win3_3.index t 2 * 32 + 32
    omega
  · show win3_3.index t 3 * 224 ≤ (i 3).val ∧ (i 3).val < win3_3.index t 3 * 224 + 224
    omega

/-- The array after the whole grid. -/
theorem arr (c : Dev nD) :
    (dat3 V c).arrAt 3 cfg3.N = output (V c main_call0_v14) (V c main_call0_v12) (V c main_call0_v2) :=
  (dat3 V c).arrAt_eq_of_cover 3 (output (V c main_call0_v14) (V c main_call0_v12) (V c main_call0_v2)) (fun t _ => flushed_eq V c t) cover

end Cert.KernelIdeal.Output
-- ==== Proof.Pooled.lean ====
/-
  The first pallas_call of the kernel (the 1×1 convolution and the 2×2 maximum): what one block of it computes, and what
  its result array holds.
-/
module

public import proofs.«01_k».proof.Proof.Gen.KernelIdeal.Frame
public import proofs.«01_k».proof.Proof.Basics

@[expose] public section

noncomputable section

namespace Cert.KernelIdeal.Pooled

open Cert.KernelIdeal Cert.KernelIdeal.Gen Idealize.ShloMosaic Idealize.ShloMosaic.TcCoe Idealize.SL.Sem
open Cert.Basics

/-! ## One output row -/

/-- The matrix that picks out the even columns. -/
theorem sel_even (q : Fin 224) (j : Fin 112) :
    (k0_pay3 (F := Ideal)) (ix2 q j) = if q.val = (⟨2 * j.val, by omega⟩ : Fin 224).val then 1 else 0 := by
  pointwise [k0_pay3]
  rw [sitofp_eq]
  refine if_congr ?_ rfl rfl
  rw [← BitVec.toNat_inj]
  simp only [IntOp.muli, BitVec.toNat_mul, BitVec.toNat_ofNat]
  omega

/-- The matrix that picks out the odd columns. -/
theorem sel_odd (q : Fin 224) (j : Fin 112) :
    (k0_pay4 (F := Ideal)) (ix2 q j) = if q.val = (⟨2 * j.val + 1, by omega⟩ : Fin 224).val then 1 else 0 := by
  pointwise [k0_pay4]
  rw [sitofp_eq]
  refine if_congr ?_ rfl rfl
  rw [← BitVec.toNat_inj]
  simp only [IntOp.muli, IntOp.addi, BitVec.toNat_mul, BitVec.toNat_add, BitVec.toNat_ofNat]
  omega

/-- The 1×1 convolution at one output channel, row and column of a batch element of an array (or of a block). -/
def mix {B R : Nat} (w : S576x192.Idx → EReal) (x : (⟨4, ![B, 192, R, 224]⟩ : Shape).Idx → EReal)
    (b : Fin B) (o : Fin 576) (r : Fin R) (q : Fin 224) : EReal :=
  ∑ c : Fin 192, w (ix2 o c) * x (ix4 b c r q)

/-- The maximum of four values, as the kernel takes it: down the rows first, then across the columns. -/
def max4 {R : Nat} (Y : Fin R → Fin 224 → EReal) (r0 r1 : Fin R) (j : Fin 112) : EReal :=
  max (max (Y r0 ⟨2 * j.val, by omega⟩) (Y r1 ⟨2 * j.val, by omega⟩))
    (max (Y r0 ⟨2 * j.val + 1, by omega⟩) (Y r1 ⟨2 * j.val + 1, by omega⟩))

/-- One output row of a block: the products of the weights with the two input rows, their maximum, and the maximum of its
    even and its odd columns. -/
def row (w : FVec Ideal S576x192 .f32) (r0 r1 : Vec Ideal S1x192x1x224 .f32) : FVec Ideal S1x576x1x112 .f32 :=
  k0_pay8 w k0_pay3 k0_pay4 r0 r1

/-- An element of an output row is the maximum of the convolution at four places. -/
theorem row_apply (w : FVec Ideal S576x192 .f32) (r0 r1 : Vec Ideal S1x192x1x224 .f32) (o : Fin 576) (j : Fin 112) :
    row w r0 r1 (ix4 0 o 0 j)
      = max4 (fun r q => mix w (![r0, r1] r) 0 o 0 q) 0 1 j := by
  unfold row k0_pay8
  pointwise [sel_even, sel_odd]
  rw [sum_mul_ite_nat _ (2 * j.val) (by omega), sum_mul_ite_nat _ (2 * j.val + 1) (by omega)]
  rfl

/-! ## One block -/

/-- What a block of the result holds, from the input's block and the weights. -/
def block (x : Vec Ideal S1x192x32x224 .f32) (w : Vec Ideal S576x192 .f32) : Vec Ideal S1x576x16x112 .f32 := fun y =>
  max4 (mix w x 0 (y 1)) ⟨2 * (y 2).val, by have h : (y 2).val < 16 := (y 2).isLt; omega⟩
    ⟨2 * (y 2).val + 1, by have h : (y 2).val < 16 := (y 2).isLt; omega⟩ (y 3)

/-- The `i`-th store of a block writes the `i`-th row of `block`. -/
theorem piece (x : Vec Ideal S1x192x32x224 .f32) (w : Vec Ideal S576x192 .f32) (i : Nat)
    (h0 : ∀ a, (![0, 0, 2 * i, 0] : Fin 4 → Nat) a + S1x192x1x224.size a ≤ S1x192x32x224.size a)
    (h1 : ∀ a, (![0, 0, 2 * i + 1, 0] : Fin 4 → Nat) a + S1x192x1x224.size a ≤ S1x192x32x224.size a)
    (h2 : ∀ a, (![0, 0, i, 0] : Fin 4 → Nat) a + S1x576x1x112.size a ≤ S1x576x16x112.size a)
    (z : S1x576x1x112.Idx) :
    row w (View.ld x (Rect.unit (s := S1x192x32x224) ![0, 0, 2 * i, 0] S1x192x1x224.size h0))
        (View.ld x (Rect.unit (s := S1x192x32x224) ![0, 0, 2 * i + 1, 0] S1x192x1x224.size h1)) z
      = block x w ((Rect.unit (s := S1x576x16x112) ![0, 0, i, 0] S1x576x1x112.size h2).emb z) := by
  obtain ⟨o, j, rfl⟩ : ∃ (o : Fin 576) (j : Fin 112), z = ix4 0 o 0 j :=
    ⟨z 1, z 3, by rw [eq_ix4 z]; congr 1; exacts [Subsingleton.elim _ _, Subsingleton.elim _ _]⟩
  have he : (Rect.unit (s := S1x576x16x112) ![0, 0, i, 0] S1x576x1x112.size h2).emb (ix4 0 o 0 j)
      = ix4 0 o ⟨i, by have h : i + 1 ≤ 16 := h2 2; omega⟩ j := by
    funext a
    apply Fin.ext
    rw [Rect.emb_apply]
    fin_cases a <;> simp [ix4]
  rw [row_apply, he]
  simp only [block, max4, mix]
  pointwise

/-- The origin of a rank-2 array. -/
theorem hz2 : (![0, 0] : Fin 2 → Nat) = fun _ => 0 := funext fun a => by fin_cases a <;> rfl

/-- The stores of a block leave `block` in it. -/
theorem out_eq (x : Vec Ideal S1x192x32x224 .f32) (w : Vec Ideal S576x192 .f32) : out0_2 x w = block x w := by
  funext y
  unfold out0_2
  refine View.canon_apply_of_pieces (block x w) _ ?_ y (cover0_2 _ _ _ _ _ _ _ _ _ _ _ _ _ _ _ _ y)
  have hw : k0_pay28 x w = w := by
    unfold k0_pay28 k0_pay2
    rw [View.ld_unit_zero hz2]
    funext y; idx_vars y; pointwise
  have P : ∀ i h0 h1 h2 z, row (k0_pay28 x w) (View.ld x (Rect.unit (s := S1x192x32x224) ![0, 0, 2 * i, 0] S1x192x1x224.size h0))
      (View.ld x (Rect.unit (s := S1x192x32x224) ![0, 0, 2 * i + 1, 0] S1x192x1x224.size h1)) z
      = block x w ((Rect.unit (s := S1x576x16x112) ![0, 0, i, 0] S1x576x1x112.size h2).emb z) := by
    rw [hw]; exact piece x w
  intro p hp
  simp only [List.mem_cons, List.not_mem_nil, or_false] at hp
  rcases hp with rfl | rfl | rfl | rfl | rfl | rfl | rfl | rfl | rfl | rfl | rfl | rfl | rfl | rfl | rfl | rfl
  · exact P 15 (by decide) (by decide) inb_S1x576x16x112_S1x576x1x112_0_0_15_0
  · exact P 14 (by decide) (by decide) inb_S1x576x16x112_S1x576x1x112_0_0_14_0
  · exact P 13 (by decide) (by decide) inb_S1x576x16x112_S1x576x1x112_0_0_13_0
  · exact P 12 (by decide) (by decide) inb_S1x576x16x112_S1x576x1x112_0_0_12_0
  · exact P 11 (by decide) (by decide) inb_S1x576x16x112_S1x576x1x112_0_0_11_0
  · exact P 10 (by decide) (by decide) inb_S1x576x16x112_S1x576x1x112_0_0_10_0
  · exact P 9 (by decide) (by decide) inb_S1x576x16x112_S1x576x1x112_0_0_9_0
  · exact P 8 (by decide) (by decide) inb_S1x576x16x112_S1x576x1x112_0_0_8_0
  · exact P 7 (by decide) (by decide) inb_S1x576x16x112_S1x576x1x112_0_0_7_0
  · exact P 6 (by decide) (by decide) inb_S1x576x16x112_S1x576x1x112_0_0_6_0
  · exact P 5 (by decide) (by decide) inb_S1x576x16x112_S1x576x1x112_0_0_5_0
  · exact P 4 (by decide) (by decide) inb_S1x576x16x112_S1x576x1x112_0_0_4_0
  · exact P 3 (by decide) (by decide) inb_S1x576x16x112_S1x576x1x112_0_0_3_0
  · exact P 2 (by decide) (by decide) inb_S1x576x16x112_S1x576x1x112_0_0_2_0
  · exact P 1 (by decide) (by decide) inb_S1x576x16x112_S1x576x1x112_0_0_1_0
  · exact P 0 (by decide) (by decide) inb_S1x576x16x112_S1x576x1x112_0_0_0_0

/-! ## The array -/

/-- The pooled convolution at one element. -/
def pooledAt (x : S2x192x224x224.Idx → EReal) (w : S576x192.Idx → EReal) (b : Fin 2) (o : Fin 576) (i j : Fin 112) : EReal :=
  max4 (mix w x b o) ⟨2 * i.val, by omega⟩ ⟨2 * i.val + 1, by omega⟩ j

/-- The whole result array. -/
def pooled (x : S2x192x224x224.Idx → EReal) (w : S576x192.Idx → EReal) : S2x576x112x112.Idx → EReal :=
  fun y => pooledAt x w (y 0) (y 1) (y 2) (y 3)

variable (V : (c : Dev nD) → (b : Ref sig .tc) → Buf (Elt Ideal) ((c : Thread nD τ).loc b))

/-- Where the blocks of the three windows lie at a grid point. -/
theorem index_eq : ∀ t : Fin cfg0.N,
    (win0_0.index t 0 = t.val / 7 ∧ win0_0.index t 1 = 0 ∧ win0_0.index t 2 = t.val % 7 ∧ win0_0.index t 3 = 0)
    ∧ (win0_1.index t 0 = 0 ∧ win0_1.index t 1 = 0)
    ∧ (win0_2.index t 0 = t.val / 7 ∧ win0_2.index t 1 = 0 ∧ win0_2.index t 2 = t.val % 7 ∧ win0_2.index t 3 = 0) := by
  decide +kernel

/-- The batch element a grid point works on. -/
def batch (t : Fin cfg0.N) : Fin 2 := ⟨t.val / 7, by have h : t.val < 14 := lt_of_lt_of_eq t.isLt N_0; omega⟩

/-- The input's block, read off its array. -/
theorem iblk_x (c : Dev nD) (t : Fin cfg0.N) (a : Fin 1) (k : Fin 192) (r : Fin 32) (q : Fin 224) :
    iblk0 V c 0 t (ix4 a k r q) = V c main_arg0 (ix4 (batch t) k
      (⟨32 * (t.val % 7) + r.val, by omega⟩ : Fin 224) q) := by
  show V c main_arg0 ((win0_0.rect t).emb (ix4 a k r q)) = _
  congr 1
  funext d
  apply Fin.ext
  rw [Pipeline.Window.rect_emb_val (w := win0_0) (hk := rfl)]
  obtain ⟨⟨e0, e1, e2, e3⟩, -, -⟩ := index_eq t
  fin_cases d
  · show win0_0.index t 0 * 1 + a.val = t.val / 7
    omega
  · show win0_0.index t 1 * 192 + k.val = k.val
    omega
  · show win0_0.index t 2 * 32 + r.val = 32 * (t.val % 7) + r.val
    omega
  · show win0_0.index t 3 * 224 + q.val = q.val
    omega

/-- The weights' block is the whole array. -/
theorem iblk_w (c : Dev nD) (t : Fin cfg0.N) : iblk0 V c 1 t = V c main_call0_v0 := by
  funext y
  show V c main_call0_v0 ((win0_1.rect t).emb y) = _
  congr 1
  funext d
  apply Fin.ext
  rw [Pipeline.Window.rect_emb_val (w := win0_1) (hk := rfl)]
  obtain ⟨-, ⟨e0, e1⟩, -⟩ := index_eq t
  fin_cases d
  · show win0_1.index t 0 * 576 + (y 0).val = (y 0).val
    omega
  · show win0_1.index t 1 * 192 + (y 1).val = (y 1).val
    omega

/-- What a grid point writes back is its block of `pooled`. -/
theorem flushed_eq (c : Dev nD) (t : Fin cfg0.N) :
    (dat0 V c).flushed 2 t = (win0_2.blk t).view.read (Elt Ideal) (pooled (V c main_arg0) (V c main_call0_v0)) := by
  show (cfg0.win 2).cut (grid0.coords t) ((dat0 V c).after 2 t) = _
  rw [after0_2, out_eq, iblk_w]
  refine funext fun (y : S1x576x16x112.Idx) => ?_
  show block (iblk0 V c 0 t) (V c main_call0_v0) y = pooled _ _ ((win0_2.rect t).emb y)
  have hy2 : (y 2).val < 16 := (y 2).isLt
  have he : (win0_2.rect t).emb y = ix4 (batch t) (y 1)
      (⟨16 * (t.val % 7) + (y 2).val, by omega⟩ : Fin 112) (y 3) := by
    funext d
    apply Fin.ext
    rw [Pipeline.Window.rect_emb_val (w := win0_2) (hk := rfl)]
    obtain ⟨-, -, e0, e1, e2, e3⟩ := index_eq t
    have hy0 : (y 0).val < 1 := (y 0).isLt
    fin_cases d
    · show win0_2.index t 0 * 1 + (y 0).val = t.val / 7
      omega
    · show win0_2.index t 1 * 576 + (y 1).val = (y 1).val
      omega
    · show win0_2.index t 2 * 16 + (y 2).val = 16 * (t.val % 7) + (y 2).val
      omega
    · show win0_2.index t 3 * 112 + (y 3).val = (y 3).val
      omega
  rw [he]
  have key : ∀ (r : Fin 32) (r' : Fin 224) (q : Fin 224), r'.val = 32 * (t.val % 7) + r.val →
      mix (V c main_call0_v0) (iblk0 V c 0 t) 0 (y 1) r q
        = mix (V c main_call0_v0) (V c main_arg0) (batch t) (y 1) r' q := by
    intro r r' q h
    rw [show r' = ⟨32 * (t.val % 7) + r.val, by omega⟩ from Fin.ext h]
    exact Finset.sum_congr rfl fun k _ => by rw [iblk_x]
  unfold block pooled pooledAt max4
  rw [key _ ⟨2 * (16 * (t.val % 7) + (y 2).val), by omega⟩ _ (by simp only []; omega),
    key _ ⟨2 * (16 * (t.val % 7) + (y 2).val) + 1, by omega⟩ _ (by simp only []; omega),
    key _ ⟨2 * (16 * (t.val % 7) + (y 2).val), by omega⟩ _ (by simp only []; omega),
    key _ ⟨2 * (16 * (t.val % 7) + (y 2).val) + 1, by omega⟩ _ (by simp only []; omega)]
  rfl

/-- The blocks tile the array. -/
theorem cover (i : S2x576x112x112.Idx) :
    ∃ t : Fin cfg0.N, (cfg0.win 2).flush t = true ∧ i ∈ ((cfg0.win 2).blk t).view.set := by
  have h0 : (i 0).val < 2 := (i 0).isLt
  have h1 : (i 1).val < 576 := (i 1).isLt
  have h2 : (i 2).val < 112 := (i 2).isLt
  have h3 : (i 3).val < 112 := (i 3).isLt
  have hN : cfg0.N = 14 := N_0
  let t : Fin cfg0.N := ⟨7 * (i 0).val + (i 2).val / 16, by omega⟩
  refine ⟨t, flush0_2 _, ?_⟩
  show i ∈ ((View.whole main_call0_v9).slice (win0_2.rect t)).set
  rw [View.set_slice_whole, Rect.mem_set_unit]
  obtain ⟨-, -, e0, e1, e2, e3⟩ := index_eq t
  have ht : t.val = 7 * (i 0).val + (i 2).val / 16 := rfl
  intro a
  fin_cases a
  · show win0_2.index t 0 * 1 ≤ (i 0).val ∧ (i 0).val < win0_2.index t 0 * 1 + 1
    omega
  · show win0_2.index t 1 * 576 ≤ (i 1).val ∧ (i 1).val < win0_2.index t 1 * 576 + 576
    omega
  · show win0_2.index t 2 * 16 ≤ (i 2).val ∧ (i 2).val < win0_2.index t 2 * 16 + 16
    omega
  · show win0_2.index t 3 * 112 ≤ (i 3).val ∧ (i 3).val < win0_2.index t 3 * 112 + 112
    omega

/-- The array after the whole grid. -/
theorem arr (c : Dev nD) :
    (dat0 V c).arrAt 2 cfg0.N = pooled (V c main_arg0) (V c main_call0_v0) :=
  (dat0 V c).arrAt_eq_of_cover 2 (pooled (V c main_arg0) (V c main_call0_v0)) (fun t _ => flushed_eq V c t) cover

end Cert.KernelIdeal.Pooled
-- ==== Proof.Depthwise.lean ====
/-
  The second pallas_call of the kernel (the depthwise 3×3 convolution): what one block of it computes, and what its result
  array holds.
-/
module

public import proofs.«01_k».proof.Proof.Gen.KernelIdeal.Frame
public import proofs.«01_k».proof.Proof.Basics

@[expose] public section

noncomputable section

namespace Cert.KernelIdeal.Depthwise

open Cert.KernelIdeal Cert.KernelIdeal.Gen Idealize.ShloMosaic Idealize.ShloMosaic.TcCoe Idealize.SL.Sem
open Cert.Basics

/-- A plane read with a border of zeros one wide: row `r` and column `c` count from the border. -/
def bordered (P : Fin 112 → Fin 112 → EReal) (r c : Nat) : EReal :=
  if h : (1 ≤ r ∧ r < 113) ∧ (1 ≤ c ∧ c < 113) then P ⟨r - 1, by omega⟩ ⟨c - 1, by omega⟩ else 0

/-- The 3×3 convolution of a plane at one element: the nine taps over the bordered plane. -/
def conv (P : Fin 112 → Fin 112 → EReal) (W : Fin 3 → Fin 3 → EReal) (i j : Fin 112) : EReal :=
  ∑ ky : Fin 3, ∑ kx : Fin 3, bordered P (i.val + ky.val) (j.val + kx.val) * W ky kx

/-- The nine taps, the border's cases told apart, in the order the kernel adds them. -/
theorem conv_eq (P : Fin 112 → Fin 112 → EReal) (W : Fin 3 → Fin 3 → EReal) (i j : Fin 112) :
    conv P W i j =
      (((if h : j.val < 1 then 0 else P i ⟨j.val - 1, by omega⟩) * W 1 0 + P i j * W 1 1
          + (if h : j.val < 111 then P i ⟨1 + j.val, by omega⟩ else 0) * W 1 2)
        + (if hi : i.val < 1 then 0 else
            (if h : j.val < 1 then 0 else P ⟨i.val - 1, by omega⟩ ⟨j.val - 1, by omega⟩) * W 0 0 + P ⟨i.val - 1, by omega⟩ j * W 0 1
              + (if h : j.val < 111 then P ⟨i.val - 1, by omega⟩ ⟨1 + j.val, by omega⟩ else 0) * W 0 2))
        + (if hi : i.val < 111 then
            (if h : j.val < 1 then 0 else P ⟨1 + i.val, by omega⟩ ⟨j.val - 1, by omega⟩) * W 2 0 + P ⟨1 + i.val, by omega⟩ j * W 2 1
              + (if h : j.val < 111 then P ⟨1 + i.val, by omega⟩ ⟨1 + j.val, by omega⟩ else 0) * W 2 2
          else 0) := by
  have b0 : ∀ r : Nat, bordered P r j.val = if hr : 1 ≤ r ∧ r < 113 then (if h : j.val < 1 then 0 else P ⟨r - 1, by omega⟩ ⟨j.val - 1, by omega⟩) else 0 := by
    intro r; unfold bordered; split_ifs <;> first | rfl | omega
  have b1 : ∀ r : Nat, bordered P r (j.val + 1) = if hr : 1 ≤ r ∧ r < 113 then P ⟨r - 1, by omega⟩ j else 0 := by
    intro r; unfold bordered; split_ifs <;> first | rfl | omega
  have b2 : ∀ r : Nat, bordered P r (j.val + 2) = if hr : 1 ≤ r ∧ r < 113 then (if h : j.val < 111 then P ⟨r - 1, by omega⟩ ⟨1 + j.val, by omega⟩ else 0) else 0 := by
    intro r; unfold bordered
    split_ifs
    · congr 2; omega
    all_goals first | rfl | omega
  unfold conv
  simp only [Fin.sum_univ_three, Fin.val_zero, Fin.val_one, Fin.val_two, Nat.add_zero, b0, b1, b2]
  have e2 : ∀ h, (⟨i.val + 2 - 1, h⟩ : Fin 112) = ⟨1 + i.val, by omega⟩ := fun h => Fin.ext (by simp only []; omega)
  have h1 : 1 ≤ i.val + 1 ∧ i.val + 1 < 113 := by omega
  by_cases hi0 : i.val < 1 <;> by_cases hi1 : i.val < 111
  · rw [dif_pos hi0, dif_pos hi1]
    simp only [h1, show ¬(1 ≤ i.val ∧ i.val < 113) by omega, show 1 ≤ i.val + 2 ∧ i.val + 2 < 113 by omega, dite_true, dite_false, and_self, zero_mul, add_zero, zero_add, e2, Nat.add_sub_cancel]
  · omega
  · rw [dif_neg hi0, dif_pos hi1]
    simp only [h1, show 1 ≤ i.val ∧ i.val < 113 by omega, show 1 ≤ i.val + 2 ∧ i.val + 2 < 113 by omega, dite_true, and_self, e2, Nat.add_sub_cancel]
    abel
  · rw [dif_neg hi0, dif_neg hi1]
    simp only [h1, show 1 ≤ i.val ∧ i.val < 113 by omega, show ¬(1 ≤ i.val + 2 ∧ i.val + 2 < 113) by omega, dite_true, dite_false, and_self, zero_mul, add_zero, Nat.add_sub_cancel]
    abel

/-! ## One block -/

/-- What a block of the result holds, from the input's block and the block of taps. -/
def block (x : Vec Ideal S1x96x112x112 .f32) (w : Vec Ideal S96x3x3 .f32) : Vec Ideal S1x96x112x112 .f32 := fun y =>
  conv (fun r c => x (ix4 0 (y 1) r c)) (fun ky kx => w (ix3 (y 1) ky kx)) (y 2) (y 3)

/-- Four written zeros are the zero offset. -/
theorem hz4 : (![0, 0, 0, 0] : Fin 4 → Nat) = fun _ => 0 := funext fun a => by fin_cases a <;> rfl

/-- The store of a block leaves `block` in it. -/
theorem out_eq (x : Vec Ideal S1x96x112x112 .f32) (w : Vec Ideal S96x3x3 .f32) : out1_2 x w = block x w := by
  unfold out1_2
  rw [View.canon_unit_zero hz4]
  funext y
  obtain ⟨ch, i, j, rfl⟩ : ∃ (ch : Fin 96) (i j : Fin 112), y = ix4 0 ch i j :=
    ⟨y 1, y 2, y 3, by rw [eq_ix4 y]; congr 1; exact Subsingleton.elim _ _⟩
  show _ = conv (fun r c => x (ix4 0 ch r c)) (fun ky kx => w (ix3 ch ky kx)) i j
  rw [conv_eq]
  pointwise [k1_pay1, k1_pay2, k1_pay3, k1_pay4, k1_pay5, k1_pay6]

/-! ## The array -/

/-- The whole result array: every channel of every batch element convolved with its own nine taps. -/
def dwconv (x : S2x576x112x112.Idx → EReal) (w : S576x3x3.Idx → EReal) : S2x576x112x112.Idx → EReal := fun y =>
  conv (fun r c => x (ix4 (y 0) (y 1) r c)) (fun ky kx => w (ix3 (y 1) ky kx)) (y 2) (y 3)

variable (V : (c : Dev nD) → (b : Ref sig .tc) → Buf (Elt Ideal) ((c : Thread nD τ).loc b))

/-- Where the blocks of the three windows lie at a grid point. -/
theorem index_eq : ∀ t : Fin cfg1.N,
    (win1_0.index t 0 = t.val / 6 ∧ win1_0.index t 1 = t.val % 6 ∧ win1_0.index t 2 = 0 ∧ win1_0.index t 3 = 0)
    ∧ (win1_1.index t 0 = t.val % 6 ∧ win1_1.index t 1 = 0 ∧ win1_1.index t 2 = 0)
    ∧ (win1_2.index t 0 = t.val / 6 ∧ win1_2.index t 1 = t.val % 6 ∧ win1_2.index t 2 = 0 ∧ win1_2.index t 3 = 0) := by
  decide +kernel

/-- The batch element a grid point works on. -/
def batch (t : Fin cfg1.N) : Fin 2 := ⟨t.val / 6, by have h : t.val < 12 := lt_of_lt_of_eq t.isLt N_1; omega⟩

/-- The channel of the array that a grid point's channel `k` is. -/
def chan (t : Fin cfg1.N) (k : Fin 96) : Fin 576 := ⟨96 * (t.val % 6) + k.val, by omega⟩

/-- The input's block, read off its array. -/
theorem iblk_x (c : Dev nD) (t : Fin cfg1.N) (a : Fin 1) (k : Fin 96) (r q : Fin 112) :
    iblk1 V c 0 t (ix4 a k r q) = V c main_call0_v11 (ix4 (batch t) (chan t k) r q) := by
  show V c main_call0_v11 ((win1_0.rect t).emb (ix4 a k r q)) = _
  congr 1
  funext d
  apply Fin.ext
  rw [Pipeline.Window.rect_emb_val (w := win1_0) (hk := rfl)]
  obtain ⟨⟨e0, e1, e2, e3⟩, -, -⟩ := index_eq t
  fin_cases d
  · show win1_0.index t 0 * 1 + a.val = t.val / 6
    omega
  · show win1_0.index t 1 * 96 + k.val = 96 * (t.val % 6) + k.val
    omega
  · show win1_0.index t 2 * 112 + r.val = r.val
    omega
  · show win1_0.index t 3 * 112 + q.val = q.val
    omega

/-- The taps' block, read off its array. -/
theorem iblk_w (c : Dev nD) (t : Fin cfg1.N) (k : Fin 96) (ky kx : Fin 3) :
    iblk1 V c 1 t (ix3 k ky kx) = V c main_call0_v1 (ix3 (chan t k) ky kx) := by
  show V c main_call0_v1 ((win1_1.rect t).emb (ix3 k ky kx)) = _
  congr 1
  funext d
  apply Fin.ext
  rw [Pipeline.Window.rect_emb_val (w := win1_1) (hk := rfl)]
  obtain ⟨-, ⟨e0, e1, e2⟩, -⟩ := index_eq t
  fin_cases d
  · show win1_1.index t 0 * 96 + k.val = 96 * (t.val % 6) + k.val
    omega
  · show win1_1.index t 1 * 3 + ky.val = ky.val
    omega
  · show win1_1.index t 2 * 3 + kx.val = kx.val
    omega

/-- What a grid point writes back is its block of `dwconv`. -/
theorem flushed_eq (c : Dev nD) (t : Fin cfg1.N) :
    (dat1 V c).flushed 2 t = (win1_2.blk t).view.read (Elt Ideal) (dwconv (V c main_call0_v11) (V c main_call0_v1)) := by
  show (cfg1.win 2).cut (grid1.coords t) ((dat1 V c).after 2 t) = _
  rw [after1_2, out_eq]
  refine funext fun (y : S1x96x112x112.Idx) => ?_
  show block (iblk1 V c 0 t) (iblk1 V c 1 t) y = dwconv _ _ ((win1_2.rect t).emb y)
  have he : (win1_2.rect t).emb y = ix4 (batch t) (chan t (y 1)) (y 2) (y 3) := by
    funext d
    apply Fin.ext
    rw [Pipeline.Window.rect_emb_val (w := win1_2) (hk := rfl)]
    obtain ⟨-, -, e0, e1, e2, e3⟩ := index_eq t
    have hy0 : (y 0).val < 1 := (y 0).isLt
    fin_cases d
    · show win1_2.index t 0 * 1 + (y 0).val = t.val / 6
      omega
    · show win1_2.index t 1 * 96 + (y 1).val = 96 * (t.val % 6) + (y 1).val
      omega
    · show win1_2.index t 2 * 112 + (y 2).val = (y 2).val
      omega
    · show win1_2.index t 3 * 112 + (y 3).val = (y 3).val
      omega
  rw [he]
  show conv (fun r q => iblk1 V c 0 t (ix4 0 (y 1) r q)) (fun ky kx => iblk1 V c 1 t (ix3 (y 1) ky kx)) (y 2) (y 3)
    = conv (fun r q => V c main_call0_v11 (ix4 (batch t) (chan t (y 1)) r q))
        (fun ky kx => V c main_call0_v1 (ix3 (chan t (y 1)) ky kx)) (y 2) (y 3)
  congr 1
  · funext r q; exact iblk_x V c t 0 (y 1) r q
  · funext ky kx; exact iblk_w V c t (y 1) ky kx

/-- The blocks tile the array. -/
theorem cover (i : S2x576x112x112.Idx) :
    ∃ t : Fin cfg1.N, (cfg1.win 2).flush t = true ∧ i ∈ ((cfg1.win 2).blk t).view.set := by
  have h0 : (i 0).val < 2 := (i 0).isLt
  have h1 : (i 1).val < 576 := (i 1).isLt
  have h2 : (i 2).val < 112 := (i 2).isLt
  have h3 : (i 3).val < 112 := (i 3).isLt
  have hN : cfg1.N = 12 := N_1
  let t : Fin cfg1.N := ⟨6 * (i 0).val + (i 1).val / 96, by omega⟩
  refine ⟨t, flush1_2 _, ?_⟩
  show i ∈ ((View.whole main_call0_v12).slice (win1_2.rect t)).set
  rw [View.set_slice_whole, Rect.mem_set_unit]
  obtain ⟨-, -, e0, e1, e2, e3⟩ := index_eq t
  have ht : t.val = 6 * (i 0).val + (i 1).val / 96 := rfl
  intro a
  fin_cases a
  · show win1_2.index t 0 * 1 ≤ (i 0).val ∧ (i 0).val < win1_2.index t 0 * 1 + 1
    omega
  · show win1_2.index t 1 * 96 ≤ (i 1).val ∧ (i 1).val < win1_2.index t 1 * 96 + 96
    omega
  · show win1_2.index t 2 * 112 ≤ (i 2).val ∧ (i 2).val < win1_2.index t 2 * 112 + 112
    omega
  · show win1_2.index t 3 * 112 ≤ (i 3).val ∧ (i 3).val < win1_2.index t 3 * 112 + 112
    omega

/-- The array after the whole grid. -/
theorem arr (c : Dev nD) :
    (dat1 V c).arrAt 2 cfg1.N = dwconv (V c main_call0_v11) (V c main_call0_v1) :=
  (dat1 V c).arrAt_eq_of_cover 2 (dwconv (V c main_call0_v11) (V c main_call0_v1)) (fun t _ => flushed_eq V c t) cover

end Cert.KernelIdeal.Depthwise
-- ==== Proof.Heads.lean ====
/-
  The eight heads of the attention kernel: what is stored for every head is one function of the head's 24×24 scores and of
  the four coefficients, however the printed body cuts its operations into parts.
-/
module

public import proofs.«01_k».proof.Proof.Gen.KernelIdeal.Skeleton

@[expose] public section

noncomputable section

namespace Cert.KernelIdeal.Heads

open Idealize.ShloMosaic Cert.KernelIdeal Cert.KernelIdeal.Gen

/-- What a head stores, of the coefficients and of its scores: the first head's payload. -/
def head (av : FVec Ideal S4x1 .f32) (a : FVec Ideal S24x24 .f32) : FVec Ideal S1x24x24 .f32 :=
  k2_pay9 (k2_pay3 av) (k2_pay6 a) (k2_pay7 a) (k2_pay8 (k2_pay3 av) a) (Scalar.ofBits .f32 0x41900000#32)

variable (g : FVec Ideal S192x192 .f32) (av : FVec Ideal S4x1 .f32)

/-- What the first of the eight blocks stores is the common head payload at its own block of the scores. -/
theorem head1 : k2_pay17 (k2_pay3 av) (k2_pay14 (k2_pay3 av) (k2_pay10 g) (k2_pay11 g) (k2_pay12 g)) (k2_pay15 (k2_pay10 g) (k2_pay11 g) (k2_pay12 g))
    (k2_pay16 (k2_pay10 g) (k2_pay11 g) (k2_pay12 g)) = head av (k2_pay10 g) := rfl

/-- What the second of the eight blocks stores is the common head payload at its own block of the scores. -/
theorem head2 : k2_pay23 (k2_pay3 av) (k2_pay19 g) (k2_pay20 g) (k2_pay21 g (k2_pay3 av)) (k2_pay22 (F := Ideal)) = head av (k2_pay18 g) := rfl

/-- What the third of the eight blocks stores is the common head payload at its own block of the scores. -/
theorem head3 : k2_pay34 (k2_pay3 av) (k2_pay28 (k2_pay25 g) (k2_pay26 g) (k2_pay27 g)) (k2_pay29 (k2_pay24 g))
    (k2_pay30 (k2_pay3 av) (k2_pay24 g) (k2_pay25 g) (k2_pay26 g) (k2_pay27 g)) (k2_pay31 (k2_pay24 g) (k2_pay25 g) (k2_pay26 g) (k2_pay27 g))
    (k2_pay32 (k2_pay24 g) (k2_pay25 g) (k2_pay26 g) (k2_pay27 g)) (k2_pay33 (k2_pay3 av)) = head av (k2_pay24 g) := rfl

/-- What the fourth of the eight blocks stores is the common head payload at its own block of the scores. -/
theorem head4 : k2_pay41 (k2_pay40 (k2_pay3 av) (k2_pay36 g) (k2_pay37 g) (k2_pay38 (F := Ideal)) (k2_pay39 g)) = head av (k2_pay35 g) := rfl

/-- What the fifth of the eight blocks stores is the common head payload at its own block of the scores. -/
theorem head5 : k2_pay49 (k2_pay3 av) (k2_pay43 g) (k2_pay44 g) (k2_pay45 g (k2_pay3 av)) (k2_pay46 g) (k2_pay47 g) (k2_pay48 (k2_pay3 av))
    = head av (k2_pay42 g) := rfl

/-- What the sixth of the eight blocks stores is the common head payload at its own block of the scores. -/
theorem head6 : k2_pay59 (k2_pay3 av) (k2_pay56 (k2_pay50 g)) (k2_pay57 (k2_pay3 av) (k2_pay50 g) (k2_pay53 g) (k2_pay54 g)) (k2_pay58 (k2_pay53 g) (k2_pay54 g))
    = head av (k2_pay50 g) := rfl

/-- What the seventh of the eight blocks stores is the common head payload at its own block of the scores. -/
theorem head7 : k2_pay1 (k2_pay66 (k2_pay3 av) (k2_pay61 g) (k2_pay62 g) (k2_pay63 (F := Ideal)) (k2_pay64 g) (k2_pay65 g (k2_pay3 av)))
    (k2_pay67 (k2_pay3 av) (k2_pay61 g) (k2_pay62 g)) = head av (k2_pay60 g) := rfl

end Cert.KernelIdeal.Heads
-- ==== Proof.Attention.lean ====
/-
  The third pallas_call of the kernel (the attention matrices): what one block of it computes, and what its result array
  holds — for every batch element a 192×192 matrix with the eight heads' combined softmax rows on the diagonal and zeros
  elsewhere.
-/
module

public import proofs.«01_k».proof.Proof.Gen.KernelIdeal.Frame
public import proofs.«01_k».proof.Proof.Heads
public import proofs.«01_k».proof.Proof.RowMath

@[expose] public section

noncomputable section

namespace Cert.KernelIdeal.Attention

open Cert.KernelIdeal Cert.KernelIdeal.Gen Idealize.ShloMosaic Idealize.ShloMosaic.TcCoe Idealize.SL.Sem
open Cert.Basics Cert.TopRank Cert.KernelIdeal.Heads

/-! ## One head -/

/-- The float written for the first bound is 12. -/
theorem ofBits_12 : Ideal.ofBits .f32 0x41400000#32 = ((12 : ℝ) : EReal) := by
  simp [Ideal.ofBits, Ideal.ieee, -EReal.coe_mul]; norm_num
/-- The float written for the second bound is 16. -/
theorem ofBits_16 : Ideal.ofBits .f32 0x41800000#32 = ((16 : ℝ) : EReal) := by
  simp [Ideal.ofBits, Ideal.ieee, -EReal.coe_mul]; norm_num
/-- The float written for the third bound is 18. -/
theorem ofBits_18 : Ideal.ofBits .f32 0x41900000#32 = ((18 : ℝ) : EReal) := by
  simp [Ideal.ofBits, Ideal.ieee, -EReal.coe_mul]; norm_num
/-- The float written for the fourth bound is 19. -/
theorem ofBits_19 : Ideal.ofBits .f32 0x41980000#32 = ((19 : ℝ) : EReal) := by
  simp [Ideal.ofBits, Ideal.ieee, -EReal.coe_mul]; norm_num
/-- The float written for −∞ is the bottom element. -/
theorem ofBits_negInf : Ideal.ofBits .f32 0xFF800000#32 = ⊥ := by
  simp [Ideal.ofBits, Ideal.ieee]

/-- A rank compared with a whole number, both as floats. -/
theorem natCast_lt (n k : Nat) : ((n : EReal) < ((k : ℝ) : EReal)) ↔ n < k := by
  rw [show ((n : Nat) : EReal) = ((n : ℝ) : EReal) from rfl, EReal.coe_lt_coe_iff, Nat.cast_lt]

/-- The equality test and the order test of two places, as a number. -/
theorem tie (p : Prop) [Decidable p] (e d : Fin 24) :
    FloatOps.sitofp (F := Ideal) FTy.f32 (BitVec.setWidth 32 (IntOp.andi (BitVec.ofBool (decide p))
      (IntOp.cmpi .slt (BitVec.ofNat 32 e.val) (BitVec.ofNat 32 d.val)))) = if p ∧ e < d then 1 else 0 := by
  have h : IntOp.cmpi .slt (BitVec.ofNat 32 e.val) (BitVec.ofNat 32 d.val) = BitVec.ofBool (decide (e < d)) := by
    revert e d; decide
  rw [h]
  by_cases hp : p <;> by_cases hd : e < d <;> simp [hp, hd, IntOp.andi, FloatOps.sitofp]

/-- The kernel's count of the elements before an element is its rank. -/
theorem pay6 (a : FVec Ideal S24x24 .f32) (r d : Fin 24) :
    k2_pay6 a (ix2 r d) = ((rank (fun e => a (ix2 r e)) d : Nat) : EReal) := by
  pointwise [k2_pay6]
  simp only [sitofp_ofBool, tie, decide_eq_true_eq]
  unfold rank
  rw [Nat.cast_add, Finset.sum_boole, Finset.sum_boole]

/-- The kernel's exponentials. -/
theorem pay7 (a : FVec Ideal S24x24 .f32) (r d : Fin 24) :
    k2_pay7 a (ix2 r d) = Ideal.exp (a (ix2 r d) - Row.top fun e => a (ix2 r e)) := by
  pointwise [k2_pay7]
  unfold Row.top
  rw [ofBits_negInf]

/-- A kept exponential, as the kernel takes it. -/
theorem kept (a : FVec Ideal S24x24 .f32) (r d : Fin 24) (kk : Nat) (c : EReal) (hc : c = ((kk : ℝ) : EReal)) :
    k2_pay7 a (ix2 r d) * FloatOps.sitofp (F := Ideal) FTy.f32 (BitVec.setWidth 32 (BitVec.ofBool (decide (k2_pay6 a (ix2 r d) < c))))
      = Row.wt (fun e => a (ix2 r e)) kk d := by
  rw [sitofp_ofBool, pay7, pay6, hc]
  simp only [decide_eq_true_eq, natCast_lt]
  rfl

/-- What a head stores at one element. -/
theorem head_apply (av : FVec Ideal S4x1 .f32) (a : FVec Ideal S24x24 .f32) (r d : Fin 24) :
    head av a (ix3 0 r d) = Row.comb (fun e => a (ix2 r e)) (fun i => av (ix2 i 0)) d := by
  have h12 := fun d => kept a r d 12 _ ofBits_12
  have h16 := fun d => kept a r d 16 _ ofBits_16
  have h18 := fun d => kept a r d 18 _ ofBits_18
  have h19 := fun d => kept a r d 19 _ ofBits_19
  unfold head k2_pay8
  generalize k2_pay6 a = R at *
  generalize k2_pay7 a = E at *
  pointwise [k2_pay9, k2_pay3]
  simp only [h12, h16, h18, h19]
  rfl

/-! ## One block -/

/-- What the body stores, last first: the heads' 24×24 blocks on the diagonal, over zeros. -/
def pieces (g : FVec Ideal S192x192 .f32) (av : FVec Ideal S4x1 .f32) : List (View.Piece (Elt Ideal) S1x192x192 .f32) :=
  [⟨Rect.unit ![0, 168, 168] ![1, 24, 24] inb_S1x192x192_S1x24x24_0_168_168, head av (extractStridedSlice S24x24 ![168, 168] g slices_S192x192_o168_168_S24x24)⟩,
   ⟨Rect.unit ![0, 144, 144] ![1, 24, 24] inb_S1x192x192_S1x24x24_0_144_144, head av (extractStridedSlice S24x24 ![144, 144] g slices_S192x192_o144_144_S24x24)⟩,
   ⟨Rect.unit ![0, 120, 120] ![1, 24, 24] inb_S1x192x192_S1x24x24_0_120_120, head av (extractStridedSlice S24x24 ![120, 120] g slices_S192x192_o120_120_S24x24)⟩,
   ⟨Rect.unit ![0, 96, 96] ![1, 24, 24] inb_S1x192x192_S1x24x24_0_96_96, head av (extractStridedSlice S24x24 ![96, 96] g slices_S192x192_o96_96_S24x24)⟩,
   ⟨Rect.unit ![0, 72, 72] ![1, 24, 24] inb_S1x192x192_S1x24x24_0_72_72, head av (extractStridedSlice S24x24 ![72, 72] g slices_S192x192_o72_72_S24x24)⟩,
   ⟨Rect.unit ![0, 48, 48] ![1, 24, 24] inb_S1x192x192_S1x24x24_0_48_48, head av (extractStridedSlice S24x24 ![48, 48] g slices_S192x192_o48_48_S24x24)⟩,
   ⟨Rect.unit ![0, 24, 24] ![1, 24, 24] inb_S1x192x192_S1x24x24_0_24_24, head av (extractStridedSlice S24x24 ![24, 24] g slices_S192x192_o24_24_S24x24)⟩,
   ⟨Rect.unit ![0, 0, 0] ![1, 24, 24] inb_S1x192x192_S1x24x24_0_0_0, head av (extractStridedSlice S24x24 ![0, 0] g slices_S192x192_o0_0_S24x24)⟩,
   ⟨Rect.unit ![0, 0, 0] ![1, 192, 192] inb_S1x192x192_S1x192x192_0_0_0, k2_pay4 (F := Ideal)⟩]

/-- Three written zeros are the zero offset. -/
theorem hz3 : (![0, 0, 0] : Fin 3 → Nat) = fun _ => 0 := funext fun a => by fin_cases a <;> rfl
/-- Two written zeros are the zero offset. -/
theorem hz2 : (![0, 0] : Fin 2 → Nat) = fun _ => 0 := funext fun a => by fin_cases a <;> rfl

/-- A load of a whole block of queries or keys is the block. -/
theorem load3 {a : Memref sig .tc .vmem S1x192x12544 .f32} (h : a.IsWhole) (x : Vec Ideal S1x192x12544 .f32) :
    View.readAt (Elt Ideal) a.view (Rect.unit ![0, 0, 0] ![1, 192, 12544] inb_S1x192x12544_S1x192x12544_0_0_0).toLoadRect (h.unread x) = x := by
  rw [View.readAt_eq_ld, h.read_unread, View.ld_unit_zero hz3]

/-- A load of the whole block of temperatures is the block. -/
theorem load192 {a : Memref sig .tc .vmem S192x1 .f32} (h : a.IsWhole) (x : Vec Ideal S192x1 .f32) :
    View.readAt (Elt Ideal) a.view (Rect.unit ![0, 0] ![192, 1] inb_S192x1_S192x1_0_0).toLoadRect (h.unread x) = x := by
  rw [View.readAt_eq_ld, h.read_unread, View.ld_unit_zero hz2]

/-- A load of the whole block of coefficients is the block. -/
theorem load4 {a : Memref sig .tc .vmem S4x1 .f32} (h : a.IsWhole) (x : Vec Ideal S4x1 .f32) :
    View.readAt (Elt Ideal) a.view (Rect.unit ![0, 0] ![4, 1] inb_S4x1_S4x1_0_0).toLoadRect (h.unread x) = x := by
  rw [View.readAt_eq_ld, h.read_unread, View.ld_unit_zero hz2]

/-- The pieces the run of the body finds are these. -/
theorem run_pieces (c : Dev nD) (i : grid2.Coords) (arg1 : Memref sig .tc .vmem S1x192x12544 .f32) (harg1 : arg1.IsWhole)
    (arg2 : Memref sig .tc .vmem S1x192x12544 .f32) (harg2 : arg2.IsWhole) (arg3 : Memref sig .tc .vmem S192x1 .f32) (harg3 : arg3.IsWhole)
    (arg4 : Memref sig .tc .vmem S4x1 .f32) (harg4 : arg4.IsWhole) (arg5 : Memref sig .tc .vmem S1x192x192 .f32) (harg5 : arg5.IsWhole)
    (x0 : Vec Ideal S1x192x12544 .f32) (x1 : Vec Ideal S1x192x12544 .f32) (x2 : Vec Ideal S192x1 .f32) (x3 : Vec Ideal S4x1 .f32) :
    (kernelRun2_A c i arg1 harg1 arg2 harg2 arg3 harg3 arg4 harg4 arg5 harg5 x0 x1 x2 x3).1 = pieces (k2_pay2 x0 x1 x2) x3 := by
  conv_rhs => rw [← load3 harg1 x0, ← load3 harg2 x1, ← load192 harg3 x2, ← load4 harg4 x3]
  rfl

/-- The place of a block's column `e` in the block's row of heads. -/
def diag (p : Fin 192) (e : Fin 24) : Fin 192 := ⟨24 * (p.val / 24) + e.val, by omega⟩

/-- A matrix with the heads' combined rows on the diagonal blocks, zero elsewhere, of all the scores and the coefficients. -/
def heads (g : Fin 192 → Fin 192 → EReal) (av : Fin 4 → EReal) (p q : Fin 192) : EReal :=
  if p.val / 24 = q.val / 24 then Row.comb (fun e => g p (diag p e)) av ⟨q.val % 24, by omega⟩ else 0

/-- A head's payload is its block of `heads`. -/
theorem head_piece (g : FVec Ideal S192x192 .f32) (av : FVec Ideal S4x1 .f32) (o : Nat) (k : Nat) (hk : o = 24 * k) (hk8 : k < 8)
    (hs : S192x192.Slices ![o, o] S24x24) (inb : ∀ a : Fin 3, ![0, o, o] a + ![1, 24, 24] a ≤ S1x192x192.size a)
    (x : (Rect.unit (s := S1x192x192) ![0, o, o] ![1, 24, 24] inb).shape.Idx) :
    head av (extractStridedSlice S24x24 ![o, o] g hs) x
      = (fun y : S1x192x192.Idx => heads (fun p q => g (ix2 p q)) (fun i => av (ix2 i 0)) (y 1) (y 2)) ((Rect.unit (s := S1x192x192) ![0, o, o] ![1, 24, 24] inb).emb x) := by
  obtain ⟨r, d, rfl⟩ : ∃ (r d : Fin 24), x = ix3 0 r d :=
    ⟨x 1, x 2, by rw [eq_ix3 x]; congr 1; exact Subsingleton.elim _ _⟩
  rw [head_apply]
  have e1 : (((Rect.unit (s := S1x192x192) ![0, o, o] ![1, 24, 24] inb).emb (ix3 0 r d)) 1).val = o + r.val := by
    rw [Rect.emb_apply]; show o + 1 * r.val = _; omega
  have e2 : (((Rect.unit (s := S1x192x192) ![0, o, o] ![1, 24, 24] inb).emb (ix3 0 r d)) 2).val = o + d.val := by
    rw [Rect.emb_apply]; show o + 1 * d.val = _; omega
  generalize (Rect.unit (s := S1x192x192) ![0, o, o] ![1, 24, 24] inb).emb (ix3 0 r d) = y at e1 e2
  show _ = heads (fun p q => g (ix2 p q)) (fun i => av (ix2 i 0)) (y 1) (y 2)
  have e1' : (y 1 : Fin 192).val = o + r.val := e1
  have e2' : (y 2 : Fin 192).val = o + d.val := e2
  unfold heads
  rw [if_pos (by omega)]
  have hd : d = ⟨(y 2 : Fin 192).val % 24, by omega⟩ := Fin.ext (by show d.val = (y 2 : Fin 192).val % 24; omega)
  rw [← hd]
  congr 1
  funext e
  unfold extractStridedSlice
  show g _ = g _
  congr 1
  funext a
  apply Fin.ext
  fin_cases a
  · show o + r.val = (y 1 : Fin 192).val; omega
  · show o + e.val = 24 * ((y 1 : Fin 192).val / 24) + e.val; omega

/-- Stores that all agree with `G`, over contents that agree with it off them, leave `G`. -/
theorem canon_over {S : Shape} (G : S.Idx → EReal) (Z : List (View.Piece (Elt Ideal) S .f32)) (y : S.Idx) :
    ∀ (L : List (View.Piece (Elt Ideal) S .f32)), (∀ p ∈ L, ∀ x : p.1.shape.Idx, p.2 x = G (p.1.emb x)) →
      ((∀ p ∈ L, y ∉ p.1.set) → View.canon Z y = G y) → View.canon (L ++ Z) y = G y
  | [], _, h => h (fun p hp => by simp at hp)
  | p :: L, hL, h => by
    rw [List.cons_append]
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_over G Z y L (fun p' hp' => hL p' (by simp [hp'])) fun hn => h fun p' hp' => ?_
      rcases List.mem_cons.mp hp' with rfl | hp'
      · exact hm
      · exact hn p' hp'

/-- Where a place lies on the diagonal, the head's piece holds it. -/
theorem mem_piece (y : S1x192x192.Idx) (o : Nat) (inb : ∀ a : Fin 3, ![0, o, o] a + ![1, 24, 24] a ≤ S1x192x192.size a)
    (h1 : o ≤ (y 1 : Fin 192).val ∧ (y 1 : Fin 192).val < o + 24) (h2 : o ≤ (y 2 : Fin 192).val ∧ (y 2 : Fin 192).val < o + 24) :
    y ∈ (Rect.unit (s := S1x192x192) ![0, o, o] ![1, 24, 24] inb).set := by
  rw [Rect.mem_set_unit]
  have h0 : (y 0).val < 1 := (y 0).isLt
  intro a
  fin_cases a
  · show 0 ≤ (y 0).val ∧ (y 0).val < 0 + 1; omega
  · exact h1
  · exact h2

/-- What the stores of one grid point leave. -/
theorem pieces_apply (g : FVec Ideal S192x192 .f32) (av : FVec Ideal S4x1 .f32) (y : S1x192x192.Idx) :
    View.canon (pieces g av) y = heads (fun p q => g (ix2 p q)) (fun i => av (ix2 i 0)) (y 1) (y 2) := by
  have P := head_piece g av
  refine canon_over (fun y : S1x192x192.Idx => heads (fun p q => g (ix2 p q)) (fun i => av (ix2 i 0)) (y 1) (y 2))
    [⟨Rect.unit ![0, 0, 0] ![1, 192, 192] inb_S1x192x192_S1x192x192_0_0_0, k2_pay4 (F := Ideal)⟩] y
    ((pieces g av).take 8) ?_ ?_
  · intro p hp
    simp only [pieces, List.take_succ_cons, List.take_zero, List.mem_cons, List.not_mem_nil, or_false] at hp
    rcases hp with rfl | rfl | rfl | rfl | rfl | rfl | rfl | rfl
    · exact P 168 7 rfl (by decide) slices_S192x192_o168_168_S24x24 inb_S1x192x192_S1x24x24_0_168_168
    · exact P 144 6 rfl (by decide) slices_S192x192_o144_144_S24x24 inb_S1x192x192_S1x24x24_0_144_144
    · exact P 120 5 rfl (by decide) slices_S192x192_o120_120_S24x24 inb_S1x192x192_S1x24x24_0_120_120
    · exact P 96 4 rfl (by decide) slices_S192x192_o96_96_S24x24 inb_S1x192x192_S1x24x24_0_96_96
    · exact P 72 3 rfl (by decide) slices_S192x192_o72_72_S24x24 inb_S1x192x192_S1x24x24_0_72_72
    · exact P 48 2 rfl (by decide) slices_S192x192_o48_48_S24x24 inb_S1x192x192_S1x24x24_0_48_48
    · exact P 24 1 rfl (by decide) slices_S192x192_o24_24_S24x24 inb_S1x192x192_S1x24x24_0_24_24
    · exact P 0 0 rfl (by decide) slices_S192x192_o0_0_S24x24 inb_S1x192x192_S1x24x24_0_0_0
  · intro h
    simp only [pieces, List.take_succ_cons, List.take_zero, List.mem_cons, List.not_mem_nil, or_false, forall_eq_or_imp, forall_eq] at h
    obtain ⟨n7, n6, n5, n4, n3, n2, n1, n0⟩ := h
    rw [View.canon_unit_zero hz3]
    show k2_pay4 (F := Ideal) y = heads _ _ (y 1) (y 2)
    unfold heads
    have M := fun o inb h1 h2 => mem_piece y o inb h1 h2
    have h1 : (y 1 : Fin 192).val < 192 := (y 1 : Fin 192).isLt
    rw [if_neg]
    · pointwise [k2_pay4]
    · intro hd
      have m7 := fun h1 h2 => n7 (M 168 _ h1 h2)
      have m6 := fun h1 h2 => n6 (M 144 _ h1 h2)
      have m5 := fun h1 h2 => n5 (M 120 _ h1 h2)
      have m4 := fun h1 h2 => n4 (M 96 _ h1 h2)
      have m3 := fun h1 h2 => n3 (M 72 _ h1 h2)
      have m2 := fun h1 h2 => n2 (M 48 _ h1 h2)
      have m1 := fun h1 h2 => n1 (M 24 _ h1 h2)
      have m0 := fun h1 h2 => n0 (M 0 _ h1 h2)
      clear P M n7 n6 n5 n4 n3 n2 n1 n0
      by_contra _
      have h8 : (y 1 : Fin 192).val / 24 = 0 ∨ (y 1 : Fin 192).val / 24 = 1 ∨ (y 1 : Fin 192).val / 24 = 2 ∨ (y 1 : Fin 192).val / 24 = 3
        ∨ (y 1 : Fin 192).val / 24 = 4 ∨ (y 1 : Fin 192).val / 24 = 5 ∨ (y 1 : Fin 192).val / 24 = 6 ∨ (y 1 : Fin 192).val / 24 = 7 := by omega
      rcases h8 with h | h | h | h | h | h | h | h
      · exact m0 (by omega) (by omega)
      · exact m1 (by omega) (by omega)
      · exact m2 (by omega) (by omega)
      · exact m3 (by omega) (by omega)
      · exact m4 (by omega) (by omega)
      · exact m5 (by omega) (by omega)
      · exact m6 (by omega) (by omega)
      · exact m7 (by omega) (by omega)

/-! ## The scores -/

/-- The length of a row, not less than 10⁻¹² (as the float that the two programs use). -/
def len {n : Nat} (q : Fin n → EReal) : EReal := max (Ideal.sqrt (∑ x, q x * q x)) (Ideal.ofBits .f32 0x2B8CBCCC#32)

/-- A score as the kernel takes it: the two rows' product, times the reciprocals of their lengths, times the temperature. -/
def score {n : Nat} (q k : Fin n → EReal) (t : EReal) : EReal :=
  (∑ x, q x * k x) * Ideal.div 1 (len q) * Ideal.div 1 (len k) * t

/-- An element of the scaled product matrix is the score of a row of queries and a row of keys. -/
theorem pay2 (q k : FVec Ideal S1x192x12544 .f32) (t : FVec Ideal S192x1 .f32) (r d : Fin 192) :
    k2_pay2 (F := Ideal) q k t (ix2 r d) = score (fun x => q (ix3 0 r x)) (fun x => k (ix3 0 d x)) (t (ix2 r 0)) := by
  pointwise [k2_pay2]
  rfl

/-! ## The array -/

/-- The whole result array, of the convolved channels (the queries' rows first, then the keys'), the temperatures and the coefficients. -/
def attn (x : S2x576x12544.Idx → EReal) (t : S192x1.Idx → EReal) (av : S4x1.Idx → EReal) : S2x192x192.Idx → EReal := fun y =>
  heads (fun p q => score (fun z => x (ix3 (y 0) ⟨p.val, by omega⟩ z)) (fun z => x (ix3 (y 0) ⟨192 + q.val, by omega⟩ z)) (t (ix2 p 0)))
    (fun i => av (ix2 i 0)) (y 1) (y 2)

variable (V : (c : Dev nD) → (b : Ref sig .tc) → Buf (Elt Ideal) ((c : Thread nD τ).loc b))

/-- What a grid point leaves in its result block. -/
theorem out_eq (c : Dev nD) (t : Fin cfg2.N) :
    outsAt2 V c t = View.canon (pieces (k2_pay2 (iblk2 V c 0 t) (iblk2 V c 1 t) (iblk2 V c 2 t)) (iblk2 V c 3 t)) := by
  unfold outsAt2 out2_A_4
  rw [View.read_writes_junk_eq_canon, run_pieces]

/-- Where the blocks of the five windows lie at a grid point. -/
theorem index_eq : ∀ t : Fin cfg2.N,
    (win2_0.index t 0 = t.val ∧ win2_0.index t 1 = 0 ∧ win2_0.index t 2 = 0)
    ∧ (win2_1.index t 0 = t.val ∧ win2_1.index t 1 = 1 ∧ win2_1.index t 2 = 0)
    ∧ (win2_2.index t 0 = 0 ∧ win2_2.index t 1 = 0)
    ∧ (win2_3.index t 0 = 0 ∧ win2_3.index t 1 = 0)
    ∧ (win2_4.index t 0 = t.val ∧ win2_4.index t 1 = 0 ∧ win2_4.index t 2 = 0) := by
  decide +kernel

/-- The batch element a grid point works on. -/
def batch (t : Fin cfg2.N) : Fin 2 := ⟨t.val, lt_of_lt_of_eq t.isLt N_2⟩

/-- The queries' block, read off its array. -/
theorem iblk_q (c : Dev nD) (t : Fin cfg2.N) (a : Fin 1) (p : Fin 192) (z : Fin 12544) :
    iblk2 V c 0 t (ix3 a p z) = V c main_call0_v13 (ix3 (batch t) ⟨p.val, by omega⟩ z) := by
  show V c main_call0_v13 ((win2_0.rect t).emb (ix3 a p z)) = _
  congr 1
  funext d
  apply Fin.ext
  rw [Pipeline.Window.rect_emb_val (w := win2_0) (hk := rfl)]
  obtain ⟨⟨e0, e1, e2⟩, -⟩ := index_eq t
  fin_cases d
  · show win2_0.index t 0 * 1 + a.val = t.val
    omega
  · show win2_0.index t 1 * 192 + p.val = p.val
    omega
  · show win2_0.index t 2 * 12544 + z.val = z.val
    omega

/-- The keys' block, read off its array. -/
theorem iblk_k (c : Dev nD) (t : Fin cfg2.N) (a : Fin 1) (p : Fin 192) (z : Fin 12544) :
    iblk2 V c 1 t (ix3 a p z) = V c main_call0_v13 (ix3 (batch t) ⟨192 + p.val, by omega⟩ z) := by
  show V c main_call0_v13 ((win2_1.rect t).emb (ix3 a p z)) = _
  congr 1
  funext d
  apply Fin.ext
  rw [Pipeline.Window.rect_emb_val (w := win2_1) (hk := rfl)]
  obtain ⟨-, ⟨e0, e1, e2⟩, -⟩ := index_eq t
  fin_cases d
  · show win2_1.index t 0 * 1 + a.val = t.val
    omega
  · show win2_1.index t 1 * 192 + p.val = 192 + p.val
    omega
  · show win2_1.index t 2 * 12544 + z.val = z.val
    omega

/-- The temperatures' block is their array. -/
theorem iblk_t (c : Dev nD) (t : Fin cfg2.N) (p : Fin 192) (a : Fin 1) :
    iblk2 V c 2 t (ix2 p a) = V c main_call0_v6 (ix2 p a) := by
  show V c main_call0_v6 ((win2_2.rect t).emb (ix2 p a)) = _
  congr 1
  funext d
  apply Fin.ext
  rw [Pipeline.Window.rect_emb_val (w := win2_2) (hk := rfl)]
  obtain ⟨-, -, ⟨e0, e1⟩, -⟩ := index_eq t
  fin_cases d
  · show win2_2.index t 0 * 192 + p.val = p.val
    omega
  · show win2_2.index t 1 * 1 + a.val = a.val
    omega

/-- The coefficients' block is their array. -/
theorem iblk_a (c : Dev nD) (t : Fin cfg2.N) (p : Fin 4) (a : Fin 1) :
    iblk2 V c 3 t (ix2 p a) = V c main_call0_v8 (ix2 p a) := by
  show V c main_call0_v8 ((win2_3.rect t).emb (ix2 p a)) = _
  congr 1
  funext d
  apply Fin.ext
  rw [Pipeline.Window.rect_emb_val (w := win2_3) (hk := rfl)]
  obtain ⟨-, -, -, ⟨e0, e1⟩, -⟩ := index_eq t
  fin_cases d
  · show win2_3.index t 0 * 4 + p.val = p.val
    omega
  · show win2_3.index t 1 * 1 + a.val = a.val
    omega

/-- What a grid point writes back is its block of `attn`. -/
theorem flushed_eq (c : Dev nD) (t : Fin cfg2.N) :
    (dat2 V c).flushed 4 t = (win2_4.blk t).view.read (Elt Ideal) (attn (V c main_call0_v13) (V c main_call0_v6) (V c main_call0_v8)) := by
  show (cfg2.win 4).cut (grid2.coords t) ((dat2 V c).after 4 t) = _
  rw [after2_4, out_eq]
  refine funext fun (y : S1x192x192.Idx) => ?_
  show View.canon (pieces _ _) y = attn _ _ _ ((win2_4.rect t).emb y)
  have he : (win2_4.rect t).emb y = ix3 (batch t) (y 1) (y 2) := by
    funext d
    apply Fin.ext
    rw [Pipeline.Window.rect_emb_val (w := win2_4) (hk := rfl)]
    obtain ⟨-, -, -, -, e0, e1, e2⟩ := index_eq t
    have hy0 : (y 0).val < 1 := (y 0).isLt
    fin_cases d
    · show win2_4.index t 0 * 1 + (y 0).val = t.val
      omega
    · show win2_4.index t 1 * 192 + (y 1).val = (y 1).val
      omega
    · show win2_4.index t 2 * 192 + (y 2).val = (y 2).val
      omega
  have hg : ∀ p q, k2_pay2 (iblk2 V c 0 t) (iblk2 V c 1 t) (iblk2 V c 2 t) (ix2 p q)
      = score (fun z => V c main_call0_v13 (ix3 (batch t) ⟨p.val, by omega⟩ z))
          (fun z => V c main_call0_v13 (ix3 (batch t) ⟨192 + q.val, by omega⟩ z)) (V c main_call0_v6 (ix2 p 0)) := by
    intro p q
    rw [pay2]
    simp only [iblk_q, iblk_k, iblk_t]
  rw [he, pieces_apply]
  simp only [hg, iblk_a]
  unfold attn
  rfl

/-- The blocks tile the array. -/
theorem cover (i : S2x192x192.Idx) :
    ∃ t : Fin cfg2.N, (cfg2.win 4).flush t = true ∧ i ∈ ((cfg2.win 4).blk t).view.set := by
  have h0 : (i 0).val < 2 := (i 0).isLt
  have h1 : (i 1).val < 192 := (i 1).isLt
  have h2 : (i 2).val < 192 := (i 2).isLt
  have hN : cfg2.N = 2 := N_2
  let t : Fin cfg2.N := ⟨(i 0).val, by omega⟩
  refine ⟨t, flush2_4 _, ?_⟩
  show i ∈ ((View.whole main_call0_v14).slice (win2_4.rect t)).set
  rw [View.set_slice_whole, Rect.mem_set_unit]
  obtain ⟨-, -, -, -, e0, e1, e2⟩ := index_eq t
  have ht : t.val = (i 0).val := rfl
  intro a
  fin_cases a
  · show win2_4.index t 0 * 1 ≤ (i 0).val ∧ (i 0).val < win2_4.index t 0 * 1 + 1
    omega
  · show win2_4.index t 1 * 192 ≤ (i 1).val ∧ (i 1).val < win2_4.index t 1 * 192 + 192
    omega
  · show win2_4.index t 2 * 192 ≤ (i 2).val ∧ (i 2).val < win2_4.index t 2 * 192 + 192
    omega

/-- The array after the whole grid. -/
theorem arr (c : Dev nD) :
    (dat2 V c).arrAt 4 cfg2.N = attn (V c main_call0_v13) (V c main_call0_v6) (V c main_call0_v8) :=
  (dat2 V c).arrAt_eq_of_cover 4 (attn (V c main_call0_v13) (V c main_call0_v6) (V c main_call0_v8)) (fun t _ => flushed_eq V c t) cover

end Cert.KernelIdeal.Attention
-- ==== Proof.KernelRun.lean ====
/-
  The run of the kernel: what the host lines between the four pallas_calls leave, and with them what the program's result
  array holds as a function of the arguments.
-/
module

public import proofs.«01_k».proof.Proof.Output
public import proofs.«01_k».proof.Proof.Pooled
public import proofs.«01_k».proof.Proof.Depthwise
public import proofs.«01_k».proof.Proof.Attention

@[expose] public section

noncomputable section

namespace Cert.KernelIdeal.KernelRun

open Cert.KernelIdeal Cert.KernelIdeal.Gen Idealize.ShloMosaic Idealize.ShloMosaic.TcCoe Idealize.SL.Sem
open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.Basics
open Cert.KernelIdeal.Pooled (pooled)
open Cert.KernelIdeal.Depthwise (dwconv)
open Cert.KernelIdeal.Attention (attn)
open Cert.KernelIdeal.Output (output)

variable (m : (ℓ : Loc nD τ sig) → Buf (Elt Ideal) ℓ) (ρ : Dev nD → PrngReg)

/-- The first call reads the query/key/value weights with their two unit axes dropped. -/
theorem qkv_w (c : Dev nD) (o : Fin 576) (i : Fin 192) : W1 m ρ c (Proc.devRef .tc main_call0_v0) (ix2 o i) = m ((c : Thread nD τ).loc main_arg2) (ix4 o i 0 0) := by
  unfold W1 hostOps0
  after_results
  pointwise

/-- The second call reads the depthwise taps with their unit axis dropped. -/
theorem dw_w (c : Dev nD) (o : Fin 576) (r q : Fin 3) : W1 m ρ c (Proc.devRef .tc main_call0_v1) (ix3 o r q) = m ((c : Thread nD τ).loc main_arg3) (ix4 o 0 r q) := by
  unfold W1 hostOps0
  after_results
  pointwise

/-- The last call reads the projection with its two unit axes dropped. -/
theorem proj_w (c : Dev nD) (o : Fin 192) (i : Fin 192) : W1 m ρ c (Proc.devRef .tc main_call0_v2) (ix2 o i) = m ((c : Thread nD τ).loc main_arg4) (ix4 o i 0 0) := by
  unfold W1 hostOps0
  after_results
  pointwise

/-- The third call reads one temperature per row: its head's. -/
theorem temp (c : Dev nD) (p : Fin 192) : W1 m ρ c (Proc.devRef .tc main_call0_v6) (ix2 p 0) = m ((c : Thread nD τ).loc main_arg1) (ix3 ⟨p.val / 24, by omega⟩ 0 0) := by
  unfold W1 hostOps0
  after_results
  pointwise
  rfl

/-- The third call reads the four combination weights as one column. -/
theorem weights (c : Dev nD) (i : Fin 4) : W1 m ρ c (Proc.devRef .tc main_call0_v8) (ix2 i 0) =
    ![m ((c : Thread nD τ).loc main_arg5) (ix1 0), m ((c : Thread nD τ).loc main_arg6) (ix1 0), m ((c : Thread nD τ).loc main_arg7) (ix1 0), m ((c : Thread nD τ).loc main_arg8) (ix1 0)] i := by
  unfold W1 hostOps0
  after_results
  show shapeCast S4x1 (concatenate S4 0 [⟨S1, m ((c : Thread nD τ).loc main_arg5)⟩, ⟨S1, m ((c : Thread nD τ).loc main_arg6)⟩, ⟨S1, m ((c : Thread nD τ).loc main_arg7)⟩, ⟨S1, m ((c : Thread nD τ).loc main_arg8)⟩] concatenates_S1_S1_S1_S1_S4_d0) shapeCasts_S4_S4x1 (ix2 i 0) = _
  fin_cases i <;> pointwise

/-- Flattening the pixels and unflattening them changes nothing. -/
theorem twice (c : Dev nD)  : W3 m ρ c (Proc.devRef .tc main_call0_v11) = W2 m ρ c (Proc.devRef .tc main_call0_v9) := by
  unfold W3 hostOps1
  after_results
  show shapeCast S2x576x112x112 (shapeCast S2x576x12544 (W2 m ρ c (Proc.devRef .tc main_call0_v9)) shapeCasts_S2x576x112x112_S2x576x12544) shapeCasts_S2x576x12544_S2x576x112x112 = _
  funext y
  rw [eq_ix4 y]
  pointwise

/-- The third call reads the convolved channels with the pixels flattened. -/
theorem flat (c : Dev nD) (b : Fin 2) (o : Fin 576) (z : Fin 12544) : W5 m ρ c (Proc.devRef .tc main_call0_v13) (ix3 b o z)
   = W4 m ρ c (Proc.devRef .tc main_call0_v12) (ix4 b o ⟨z.val / 112, by omega⟩ ⟨z.val % 112, by omega⟩) := by
  unfold W5 hostOps2
  after_results
  pointwise

/-- The convolved channels, of the image and the two first layers' weights. -/
def convolved (x : S2x192x224x224.Idx → EReal) (qw : S576x192x1x1.Idx → EReal) (dw : S576x1x3x3.Idx → EReal) : S2x576x112x112.Idx → EReal :=
  dwconv (pooled x (fun y => qw (ix4 (y 0) (y 1) 0 0))) (fun y => dw (ix4 (y 0) 0 (y 1) (y 2)))

/-- What the kernel computes, of its nine arguments. -/
def result (x : S2x192x224x224.Idx → EReal) (t : S8x1x1.Idx → EReal) (qw : S576x192x1x1.Idx → EReal) (dw : S576x1x3x3.Idx → EReal)
    (pw : S192x192x1x1.Idx → EReal) (a : Fin 4 → EReal) : S2x192x224x224.Idx → EReal :=
  let C := convolved x qw dw
  output
    (attn (fun y => C (ix4 (y 0) (y 1) ⟨(y 2).val / 112, by have h : (y 2).val < 12544 := (y 2).isLt; omega⟩ ⟨(y 2).val % 112, by omega⟩))
      (fun y => t (ix3 ⟨(y 0).val / 24, by have h : (y 0).val < 192 := (y 0).isLt; omega⟩ 0 0)) (fun y => a (y 0)))
    C (fun y => pw (ix4 (y 0) (y 1) 0 0))

/-- After the second call the depthwise result array holds the convolved channels. -/
theorem W4_conv (c : Dev nD) : W4 m ρ c (Proc.devRef .tc main_call0_v12)
    = convolved (m ((c : Thread nD τ).loc main_arg0)) (m ((c : Thread nD τ).loc main_arg2)) (m ((c : Thread nD τ).loc main_arg3)) := by
  refine (W4_arr m ρ c 2).trans ((Depthwise.arr _ c).trans ?_)
  unfold convolved
  have h11 : V3 m ρ c main_call0_v11 = pooled (m ((c : Thread nD τ).loc main_arg0)) (fun y => m ((c : Thread nD τ).loc main_arg2) (ix4 (y 0) (y 1) 0 0)) := by
    refine (twice m ρ c).trans ((W2_arr m ρ c 2).trans ((Pooled.arr _ c).trans ?_))
    have h0 : V1 m ρ c main_arg0 = m ((c : Thread nD τ).loc main_arg0) := W1_args m ρ c main_arg0 (by decide)
    have h1 : V1 m ρ c main_call0_v0 = (fun y : S576x192.Idx => m ((c : Thread nD τ).loc main_arg2) (ix4 (y 0) (y 1) 0 0)) := by
      funext y
      rw [eq_ix2 y]
      exact qkv_w m ρ c (y 0) (y 1)
    rw [h0, h1]
  have h1 : V3 m ρ c main_call0_v1 = (fun y : S576x3x3.Idx => m ((c : Thread nD τ).loc main_arg3) (ix4 (y 0) 0 (y 1) (y 2))) := by
    refine (W3_of m ρ c main_call0_v1 (by decide)).trans ((W2_of m ρ c main_call0_v1 (by decide)).trans ?_)
    funext y
    rw [eq_ix3 y]
    exact dw_w m ρ c (y 0) (y 1) (y 2)
  rw [h11, h1]

/-- The result array at the end of the run. -/
theorem W7_result (c : Dev nD) : W7 m ρ c (Proc.devRef .tc main_v0)
    = result (m ((c : Thread nD τ).loc main_arg0)) (m ((c : Thread nD τ).loc main_arg1)) (m ((c : Thread nD τ).loc main_arg2))
        (m ((c : Thread nD τ).loc main_arg3)) (m ((c : Thread nD τ).loc main_arg4))
        ![m ((c : Thread nD τ).loc main_arg5) (ix1 0), m ((c : Thread nD τ).loc main_arg6) (ix1 0), m ((c : Thread nD τ).loc main_arg7) (ix1 0), m ((c : Thread nD τ).loc main_arg8) (ix1 0)] := by
  refine (W7_arr m ρ c 3).trans ((Output.arr _ c).trans ?_)
  have h12 : V6 m ρ c main_call0_v12 = convolved (m ((c : Thread nD τ).loc main_arg0)) (m ((c : Thread nD τ).loc main_arg2)) (m ((c : Thread nD τ).loc main_arg3)) :=
    (W6_of m ρ c main_call0_v12 (by decide)).trans ((W5_of m ρ c main_call0_v12 (by decide)).trans (W4_conv m ρ c))
  have h2 : V6 m ρ c main_call0_v2 = (fun y : S192x192.Idx => m ((c : Thread nD τ).loc main_arg4) (ix4 (y 0) (y 1) 0 0)) := by
    refine (W6_of m ρ c main_call0_v2 (by decide)).trans ((W5_of m ρ c main_call0_v2 (by decide)).trans ((W4_of m ρ c main_call0_v2 (by decide)).trans
      ((W3_of m ρ c main_call0_v2 (by decide)).trans ((W2_of m ρ c main_call0_v2 (by decide)).trans ?_))))
    funext y
    rw [eq_ix2 y]
    exact proj_w m ρ c (y 0) (y 1)
  have h6 : V5 m ρ c main_call0_v6 = (fun y : S192x1.Idx => m ((c : Thread nD τ).loc main_arg1) (ix3 ⟨(y 0).val / 24, by have h : (y 0).val < 192 := (y 0).isLt; omega⟩ 0 0)) := by
    refine (W5_of m ρ c main_call0_v6 (by decide)).trans ((W4_of m ρ c main_call0_v6 (by decide)).trans
      ((W3_of m ρ c main_call0_v6 (by decide)).trans ((W2_of m ρ c main_call0_v6 (by decide)).trans ?_)))
    refine funext fun (y : S192x1.Idx) => ?_
    obtain ⟨p, rfl⟩ : ∃ p : Fin 192, y = ix2 p 0 := ⟨y 0, (eq_ix2 y).trans (congrArg (ix2 (y 0)) (Subsingleton.elim (α := Fin 1) _ _))⟩
    exact temp m ρ c p
  have h8 : V5 m ρ c main_call0_v8 = (fun y : S4x1.Idx => ![m ((c : Thread nD τ).loc main_arg5) (ix1 0), m ((c : Thread nD τ).loc main_arg6) (ix1 0), m ((c : Thread nD τ).loc main_arg7) (ix1 0), m ((c : Thread nD τ).loc main_arg8) (ix1 0)] (y 0)) := by
    refine (W5_of m ρ c main_call0_v8 (by decide)).trans ((W4_of m ρ c main_call0_v8 (by decide)).trans
      ((W3_of m ρ c main_call0_v8 (by decide)).trans ((W2_of m ρ c main_call0_v8 (by decide)).trans ?_)))
    refine funext fun (y : S4x1.Idx) => ?_
    obtain ⟨p, rfl⟩ : ∃ p : Fin 4, y = ix2 p 0 := ⟨y 0, (eq_ix2 y).trans (congrArg (ix2 (y 0)) (Subsingleton.elim (α := Fin 1) _ _))⟩
    exact weights m ρ c p
  have h13 : V5 m ρ c main_call0_v13 = (fun y : S2x576x12544.Idx =>
      convolved (m ((c : Thread nD τ).loc main_arg0)) (m ((c : Thread nD τ).loc main_arg2)) (m ((c : Thread nD τ).loc main_arg3))
        (ix4 (y 0) (y 1) ⟨(y 2).val / 112, by have h : (y 2).val < 12544 := (y 2).isLt; omega⟩ ⟨(y 2).val % 112, by omega⟩)) := by
    funext y
    rw [← W4_conv m ρ c, eq_ix3 y]
    exact flat m ρ c (y 0) (y 1) (y 2)
  have h14 : V6 m ρ c main_call0_v14 = attn (V5 m ρ c main_call0_v13) (V5 m ρ c main_call0_v6) (V5 m ρ c main_call0_v8) :=
    (W6_arr m ρ c 4).trans (Attention.arr _ c)
  rw [h14, h12, h2, h13, h6, h8]
  rfl

local notation "𝕄" => MT nD τ sig Unit (Elt Ideal) ℕ (UR sig nD τ) ℕ

set_option backward.isDefEq.respectTransparency.types false in
/-- Every run of the kernel ends, faulting nowhere, with the result array at `result` of the arguments and the arguments
    as launched. -/
theorem run : θ_run (defs (F := Ideal)) (onTc (τ := τ) (main (F := Ideal))) ⟨m, fun _ => 0, ρ⟩ (fun r => ∀ c : Dev nD,
      r.2.mem ((c.tc : Thread nD τ).loc main_v0)
        = result (m ((c : Thread nD τ).loc main_arg0)) (m ((c : Thread nD τ).loc main_arg1)) (m ((c : Thread nD τ).loc main_arg2))
            (m ((c : Thread nD τ).loc main_arg3)) (m ((c : Thread nD τ).loc main_arg4))
            ![m ((c : Thread nD τ).loc main_arg5) (ix1 0), m ((c : Thread nD τ).loc main_arg6) (ix1 0), m ((c : Thread nD τ).loc main_arg7) (ix1 0), m ((c : Thread nD τ).loc main_arg8) (ix1 0)]
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => (fun c =>
      ⟨(h c _ (mem_uc main_v0 (by decide))).trans (W7_result m ρ c),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩))

end Cert.KernelIdeal.KernelRun
-- ==== Proof.RefConv.lean ====
/-
  The reference's first half read element by element: the 1×1 convolution, the 2×2 maximum pooling and the 3×3 depthwise
  convolution, and that they are the kernel's convolved channels.
-/
module

public import proofs.«01_k».proof.Proof.Gen.ReferenceIdeal.Read
public import proofs.«01_k».proof.Proof.KernelRun
public import Idealize.ShloMosaic.Lib.ValueIdxRank6

@[expose] public section

noncomputable section

namespace Cert.ReferenceIdeal.Conv

open Cert.ReferenceIdeal Cert.ReferenceIdeal.Gen Cert.ReferenceIdeal.Read Idealize.ShloMosaic
open Cert.KernelIdeal.Pooled (mix max4 pooledAt pooled)
open Cert.KernelIdeal.Depthwise (bordered conv dwconv)
open Cert.KernelIdeal.KernelRun (convolved)

variable (x0 : (⟨S2x192x224x224, .f32⟩ : BufTy).Contents (Elt Ideal)) (x2 : (⟨S576x192x1x1, .f32⟩ : BufTy).Contents (Elt Ideal))
  (x3 : (⟨S576x1x3x3, .f32⟩ : BufTy).Contents (Elt Ideal))

/-- The 1×1 convolution at one pixel. -/
theorem mixed (b : Fin 2) (o : Fin 576) (r q : Fin 224) :
    val_main_v2 x0 x2 (ix4 b o r q) = mix (fun y => x2 (ix4 (y 0) (y 1) 0 0)) x0 b o r q := by
  pointwise [val_main_v2, val_main_v1, val_main_v0]
  rfl

/-- The pixels in 2×2 cells. -/
theorem cells (b : Fin 2) (o : Fin 576) (i : Fin 112) (u : Fin 2) (j : Fin 112) (v : Fin 2) :
    val_main_v3 x0 x2 (ix6 b o i u j v) = val_main_v2 x0 x2 (ix4 b o ⟨2 * i.val + u.val, by omega⟩ ⟨2 * j.val + v.val, by omega⟩) := by
  unfold val_main_v3
  refine shapeCast_apply _ _ _ _ ?_
  rw [Shape.rowMajor_val_six, Shape.rowMajor_val_four]
  show ((b.val * 576 + o.val) * 224 + (2 * i.val + u.val)) * 224 + (2 * j.val + v.val)
    = ((((b.val * 576 + o.val) * 112 + i.val) * 2 + u.val) * 112 + j.val) * 2 + v.val
  omega

/-- Which elements of the cells one pooled element is taken over. -/
theorem drop_iff (b : Fin 2) (o : Fin 576) (i j : Fin 112) (y : S2x576x112x2x112x2.Idx) :
    reducesTo_S2x576x112x2x112x2_S2x576x112x112_d3_5.drop y = ix4 b o i j ↔ ∃ u v : Fin 2, y = ix6 b o i u j v := by
  have e0 := reducesTo_S2x576x112x2x112x2_S2x576x112x112_d3_5.drop_apply_val_of_eq y 0 0
  have e1 := reducesTo_S2x576x112x2x112x2_S2x576x112x112_d3_5.drop_apply_val_of_eq y 1 1
  have e2 := reducesTo_S2x576x112x2x112x2_S2x576x112x112_d3_5.drop_apply_val_of_eq y 2 2
  have e3 := reducesTo_S2x576x112x2x112x2_S2x576x112x112_d3_5.drop_apply_val_of_eq y 3 4
  constructor
  · intro h
    rw [h] at e0 e1 e2 e3
    refine ⟨y 3, y 5, ?_⟩
    funext a
    apply Fin.ext
    fin_cases a
    · exact e0.symm
    · exact e1.symm
    · exact e2.symm
    · rfl
    · exact e3.symm
    · rfl
  · rintro ⟨u, v, rfl⟩
    funext a
    apply Fin.ext
    fin_cases a
    · exact e0
    · exact e1
    · exact e2
    · exact e3

/-- The maximum over a cell is the maximum of its four pixels. -/
theorem pooled_eq : val_main_v4 x0 x2 = pooled x0 (fun y => x2 (ix4 (y 0) (y 1) 0 0)) := by
  refine funext fun (y : S2x576x112x112.Idx) => ?_
  obtain ⟨b, o, i, j, rfl⟩ : ∃ (b : Fin 2) (o : Fin 576) (i j : Fin 112), y = ix4 b o i j := ⟨y 0, y 1, y 2, y 3, eq_ix4 y⟩
  show val_main_v4 x0 x2 (ix4 b o i j) = max4 (mix (fun y => x2 (ix4 (y 0) (y 1) 0 0)) x0 b o) ⟨2 * i.val, by omega⟩ ⟨2 * i.val + 1, by omega⟩ j
  have hv (u v : Fin 2) := (cells x0 x2 b o i u j v).trans (mixed x0 x2 b o _ _)
  unfold val_main_v4
  rw [Host.reduce_eq_fold]
  apply le_antisymm
  · refine (Finset.fold_max_le _).mpr ⟨?_, fun y hy => ?_⟩
    · have h : val_main_cst (F := Ideal) (Shape.Idx.first h_S_) = ⊥ := by
        unfold val_main_cst
        simp [constant, Ideal.ofBits, Ideal.ieee]
      rw [h]
      exact bot_le
    · obtain ⟨u, v, rfl⟩ := (drop_iff b o i j y).mp (Finset.mem_filter.mp hy).2
      rw [hv u v]
      unfold max4
      fin_cases u <;> fin_cases v <;> simp
  · have hle (u v : Fin 2) := Finset.le_fold_max
      (s := Finset.univ.filter fun y => reducesTo_S2x576x112x2x112x2_S2x576x112x112_d3_5.drop y = ix4 b o i j)
      (f := val_main_v3 x0 x2) (b := val_main_cst (F := Ideal) (Shape.Idx.first h_S_)) _ |>.mpr
      (.inr ⟨ix6 b o i u j v, Finset.mem_filter.mpr ⟨Finset.mem_univ _, (drop_iff b o i j _).mpr ⟨u, v, rfl⟩⟩, le_refl _⟩)
    simp only [hv] at hle
    exact max_le (max_le (hle 0 0) (hle 1 0)) (max_le (hle 0 1) (hle 1 1))

/-- The padded plane is the plane with a border of zeros. -/
theorem padded (b : Fin 2) (o : Fin 576) (r c : Fin 114) :
    val_main_v5 x0 x2 (ix4 b o r c) = bordered (fun r c => val_main_v4 x0 x2 (ix4 b o r c)) r.val c.val := by
  unfold val_main_v5 bordered
  generalize val_main_v4 x0 x2 = P
  pointwise [val_main_call0_v0, val_main_c]
  by_cases hr : (1 ≤ r.val ∧ r.val < 113) ∧ (1 ≤ c.val ∧ c.val < 113)
  · rw [dif_pos hr, dif_pos ⟨⟨hr.1.1, by omega⟩, hr.2.1, by omega⟩]
  · rw [dif_neg hr, dif_neg (fun h => hr ⟨⟨h.1.1, by omega⟩, h.2.1, by omega⟩)]
    exact (by simp [FloatOps.sitofp] : FloatOps.sitofp (F := Ideal) .f32 0#32 = 0)

/-- The nine shifted products are the depthwise convolution. -/
theorem convolved_eq : val_main_v69 x0 x2 x3 = convolved x0 x2 x3 := by
  refine funext fun (y : S2x576x112x112.Idx) => ?_
  obtain ⟨b, o, i, j, rfl⟩ : ∃ (b : Fin 2) (o : Fin 576) (i j : Fin 112), y = ix4 b o i j := ⟨y 0, y 1, y 2, y 3, eq_ix4 y⟩
  show _ = conv (fun r c => pooled x0 (fun y => x2 (ix4 (y 0) (y 1) 0 0)) (ix4 b o r c)) (fun ky kx => x3 (ix4 o 0 ky kx)) i j
  rw [← pooled_eq]
  have hp := padded x0 x2 b o
  unfold conv
  generalize bordered (fun r c => val_main_v4 x0 x2 (ix4 b o r c)) = Q at *
  unfold val_main_v69 val_main_v62 val_main_v55 val_main_v48 val_main_v41 val_main_v34 val_main_v27 val_main_v20 val_main_v13
  unfold val_main_v68 val_main_v61 val_main_v54 val_main_v47 val_main_v40 val_main_v33 val_main_v26 val_main_v19 val_main_v12
  unfold val_main_v63 val_main_v56 val_main_v49 val_main_v42 val_main_v35 val_main_v28 val_main_v21 val_main_v14 val_main_v7
  generalize val_main_v5 x0 x2 = P at *
  pointwise [val_main_v67, val_main_v60, val_main_v53, val_main_v46, val_main_v39, val_main_v32, val_main_v25, val_main_v18, val_main_v11,
    val_main_v66, val_main_v59, val_main_v52, val_main_v45, val_main_v38, val_main_v31, val_main_v24, val_main_v17, val_main_v10,
    val_main_v65, val_main_v58, val_main_v51, val_main_v44, val_main_v37, val_main_v30, val_main_v23, val_main_v16, val_main_v9,
    val_main_v64, val_main_v57, val_main_v50, val_main_v43, val_main_v36, val_main_v29, val_main_v22, val_main_v15, val_main_v8,
    val_main_v6, val_main_cst_0]
  simp only [hp, Fin.sum_univ_three, show (0 : Fin 3).val = 0 from rfl, show (1 : Fin 3).val = 1 from rfl,
    show (2 : Fin 3).val = 2 from rfl, add_zero, add_comm 1, add_comm 2, add_assoc]

end Cert.ReferenceIdeal.Conv
-- ==== Proof.Equal.lean ====
/-
  The kernel's result and the reference's are one function of real arguments.
-/
module

public import proofs.«01_k».proof.Proof.RefOutput
public import proofs.«01_k».proof.Proof.RefConv

@[expose] public section

noncomputable section

namespace Cert.Equal

open Idealize.ShloMosaic Cert.ReferenceIdeal Cert.ReferenceIdeal.Read
open Cert.KernelIdeal.KernelRun (convolved)
open Cert.KernelIdeal.Attention (diag heads)

/-! ## Real values -/

/-- An extended real that is a real number. -/
def IsR (z : EReal) : Prop := ∃ r : ℝ, z = r

/-- A product of two real values is real. -/
theorem IsR.mul {a b : EReal} : IsR a → IsR b → IsR (a * b) := by
  rintro ⟨r, rfl⟩ ⟨s, rfl⟩
  exact ⟨r * s, (EReal.coe_mul r s).symm⟩

/-- The greater of two real values is real. -/
theorem IsR.max {a b : EReal} (ha : IsR a) (hb : IsR b) : IsR (Max.max a b) := by
  rcases max_choice a b with h | h <;> rw [h] <;> assumption

/-- A sum of real values is real. -/
theorem IsR.sum {n : Nat} {f : Fin n → EReal} (h : ∀ i, IsR (f i)) : IsR (∑ i, f i) := by
  choose g hg using h
  exact ⟨∑ i, g i, by simp only [hg, Row.coe_sum]⟩

/-- The convolved channels of a real image with real weights are real. -/
theorem convolved_real (x0 : S2x192x224x224.Idx → EReal) (x2 : S576x192x1x1.Idx → EReal) (x3 : S576x1x3x3.Idx → EReal)
    (h0 : ∀ i, IsR (x0 i)) (h2 : ∀ i, IsR (x2 i)) (h3 : ∀ i, IsR (x3 i)) (y : S2x576x112x112.Idx) : IsR (convolved x0 x2 x3 y) := by
  unfold convolved Cert.KernelIdeal.Depthwise.dwconv Cert.KernelIdeal.Depthwise.conv
  refine IsR.sum fun ky => IsR.sum fun kx => IsR.mul ?_ (h3 _)
  unfold Cert.KernelIdeal.Depthwise.bordered
  split_ifs
  · have hm : ∀ {R : Nat} (x : (⟨4, ![2, 192, R, 224]⟩ : Shape).Idx → EReal) (_ : ∀ i, IsR (x i)) b o r q,
        IsR (Cert.KernelIdeal.Pooled.mix (fun y => x2 (ix4 (y 0) (y 1) 0 0)) x b o r q) := fun x hx b o r q =>
      IsR.sum fun c => IsR.mul (h2 _) (hx _)
    exact IsR.max (IsR.max (hm x0 h0 _ _ _ _) (hm x0 h0 _ _ _ _)) (IsR.max (hm x0 h0 _ _ _ _) (hm x0 h0 _ _ _ _))
  · exact ⟨0, EReal.coe_zero.symm⟩

/-! ## The scores -/

/-- The two programs' least length, as a real number. -/
theorem least_length : Ideal.ofBits .f32 0x2B8CBCCC#32 = ((9223372 / 2 ^ 63 : ℝ) : EReal) := by
  simp [Ideal.ofBits, Ideal.ieee, -EReal.coe_mul]
  norm_num

/-- The length of a real row is a positive real number. -/
theorem length_pos (a : Fin 12544 → ℝ) : ∃ L : ℝ, 0 < L ∧ ReferenceIdeal.Output.norm (fun z => (a z : EReal)) = (L : EReal) := by
  unfold ReferenceIdeal.Output.norm
  rw [least_length]
  simp only [← EReal.coe_mul, Row.coe_sum]
  rw [Ideal.sqrt_coe, if_neg (not_lt.mpr (Finset.sum_nonneg fun z _ => mul_self_nonneg (a z))), ← EReal.coe_strictMono.monotone.map_max]
  exact ⟨_, lt_max_of_lt_right (by norm_num), rfl⟩

/-- The kernel's score of two real rows is the reference's, and is real. -/
theorem score_eq (a b : Fin 12544 → ℝ) (t : ℝ) : ∃ s : ℝ,
    Cert.KernelIdeal.Attention.score (fun z => (a z : EReal)) (fun z => (b z : EReal)) (t : EReal) = (s : EReal)
    ∧ ReferenceIdeal.Output.score (fun z => (a z : EReal)) (fun z => (b z : EReal)) (t : EReal) = (s : EReal) := by
  obtain ⟨L, hL, h1⟩ := length_pos a
  obtain ⟨M, hM, h2⟩ := length_pos b
  refine ⟨(∑ z, a z * (1 / L) * (b z * (1 / M))) * t, ?_, ?_⟩
  · have h1' : Cert.KernelIdeal.Attention.len (fun z => (a z : EReal)) = (L : EReal) := by
      rw [← h1, Cert.KernelIdeal.Attention.len, ReferenceIdeal.Output.norm]
    have h2' : Cert.KernelIdeal.Attention.len (fun z => (b z : EReal)) = (M : EReal) := by
      rw [← h2, Cert.KernelIdeal.Attention.len, ReferenceIdeal.Output.norm]
    unfold Cert.KernelIdeal.Attention.score
    rw [h1', h2', Ideal.div_coe hL.ne', Ideal.div_coe hM.ne', one_mul, one_mul]
    simp only [← EReal.coe_mul, Row.coe_sum]
    refine congrArg Real.toEReal (congrArg (· * t) ?_)
    rw [Finset.sum_mul, Finset.sum_mul]
    exact Finset.sum_congr rfl fun z _ => by ring
  · unfold ReferenceIdeal.Output.score
    rw [h1, h2]
    simp only [Ideal.div_coe hL.ne', Ideal.div_coe hM.ne', ← EReal.coe_mul, Row.coe_sum]

/-! ## The GELU -/

/-- The kernel's GELU, with `1 + erf`, is the reference's, with `erfc` of the opposite. -/
theorem gelu_eq (t : EReal) : Cert.KernelIdeal.Output.gelu t = ReferenceIdeal.Output.gelu t := by
  have h2 : Ideal.ofBits .f32 0x40000000#32 = ((2 : ℝ) : EReal) := by
    simp [Ideal.ofBits, Ideal.ieee, -EReal.coe_mul]
    norm_num
  unfold Cert.KernelIdeal.Output.gelu ReferenceIdeal.Output.gelu
  rw [h2, Ideal.sqrt_coe, if_neg (by norm_num), Ideal.div_coe (by positivity), EReal.neg_mul, Ideal.erfc_neg, one_div]

/-! ## The heads -/

/-- A row of the block-diagonal matrix times a column is the row of its own head times the head's part of the column. -/
theorem heads_sum (g : Fin 192 → Fin 192 → EReal) (av : Fin 4 → EReal) (p : Fin 192) (c : Fin 192 → EReal) :
    ∑ z, heads g av p z * c z = ∑ d, Row.comb (fun e => g p (diag p e)) av d * c (diag p d) := by
  have hi : Function.Injective (diag p) := fun d e h => Fin.ext (by have := congrArg Fin.val h; simp only [diag] at this; omega)
  rw [← Finset.sum_subset (Finset.subset_univ (Finset.univ.image (diag p))), Finset.sum_image fun _ _ _ _ h => hi h]
  · refine Finset.sum_congr rfl fun d _ => ?_
    have h1 : p.val / 24 = (diag p d).val / 24 := by simp only [diag]; omega
    have h2 : (⟨(diag p d).val % 24, by omega⟩ : Fin 24) = d := Fin.ext (by simp only [diag]; omega)
    unfold heads
    rw [if_pos h1, h2]
  · intro z _ hz
    have h1 : ¬ p.val / 24 = z.val / 24 := fun h => hz (Finset.mem_image.mpr
      ⟨⟨z.val % 24, by omega⟩, Finset.mem_univ _, Fin.ext (by simp only [diag]; omega)⟩)
    unfold heads
    rw [if_neg h1, zero_mul]

/-! ## The results -/

/-- An element of the channels is told by the numbers of its channel, row and column. -/
theorem channel_eq (R : S2x576x112x112.Idx → ℝ) (b : Fin 2) {o o' : Fin 576} {r r' c c' : Fin 112} (ho : o.val = o'.val)
    (hr : r.val = r'.val) (hc : c.val = c'.val) : (R (ix4 b o r c) : EReal) = (R (ix4 b o' r' c') : EReal) := by
  rw [Fin.ext ho, Fin.ext hr, Fin.ext hc]

/-- On real arguments — the projection's weights may be anything — the two programs compute the same array. -/
theorem result_eq (x0 : S2x192x224x224.Idx → EReal) (x1 : S8x1x1.Idx → EReal) (x2 : S576x192x1x1.Idx → EReal) (x3 : S576x1x3x3.Idx → EReal)
    (x4 : S192x192x1x1.Idx → EReal) (x5 x6 x7 x8 : S1.Idx → EReal)
    (h0 : ∀ i, IsR (x0 i)) (h1 : ∀ i, IsR (x1 i)) (h2 : ∀ i, IsR (x2 i)) (h3 : ∀ i, IsR (x3 i))
    (h5 : ∀ i, IsR (x5 i)) (h6 : ∀ i, IsR (x6 i)) (h7 : ∀ i, IsR (x7 i)) (h8 : ∀ i, IsR (x8 i)) :
    val_main_v192 (F := Ideal) x0 x1 x2 x3 x4 x5 x6 x7 x8
      = Cert.KernelIdeal.KernelRun.result x0 x1 x2 x3 x4 ![x5 (ix1 0), x6 (ix1 0), x7 (ix1 0), x8 (ix1 0)] := by
  refine funext fun (y : S2x192x224x224.Idx) => ?_
  obtain ⟨b, o, i, q, rfl⟩ : ∃ b o i q, y = ix4 b o i q := ⟨y 0, y 1, y 2, y 3, by funext a; fin_cases a <;> rfl⟩
  rw [ReferenceIdeal.Output.result]
  unfold Cert.KernelIdeal.KernelRun.result Cert.KernelIdeal.Output.output
  refine Finset.sum_congr rfl fun p _ => ?_
  refine congrArg₂ (· * ·) rfl ?_
  rw [gelu_eq]
  congr 1
  rw [ReferenceIdeal.Output.combined, ReferenceIdeal.Conv.convolved_eq]
  choose R hR using convolved_real x0 x2 x3 h0 h2 h3
  choose t ht using h1
  obtain ⟨a0, ha0⟩ := h5 (ix1 0)
  obtain ⟨a1, ha1⟩ := h6 (ix1 0)
  obtain ⟨a2, ha2⟩ := h7 (ix1 0)
  obtain ⟨a3, ha3⟩ := h8 (ix1 0)
  have hC : convolved x0 x2 x3 = fun y => (R y : EReal) := funext hR
  have hrow := fun e : Fin 24 => score_eq (fun z => R (ix4 b ⟨p.val, by omega⟩ ⟨z.val / 112, by omega⟩ ⟨z.val % 112, by omega⟩))
    (fun z => R (ix4 b ⟨192 + (diag p e).val, by omega⟩ ⟨z.val / 112, by omega⟩ ⟨z.val % 112, by omega⟩)) (t (ix3 ⟨p.val / 24, by omega⟩ 0 0))
  choose s hK hS using hrow
  have hrefRow : Softmax.rowAt (val_main_v89 (F := Ideal) x0 x1 x2 x3) b ⟨p.val / 24, by omega⟩ ⟨p.val % 24, by omega⟩ = fun e => (s e : EReal) := by
    funext e
    rw [← hS e]
    refine (ReferenceIdeal.Output.scores x0 x1 x2 x3 _ _ _ _).trans ?_
    rw [ReferenceIdeal.Conv.convolved_eq, hC, ht]
    unfold ReferenceIdeal.Output.part
    refine congrArg₂ (fun u v => ReferenceIdeal.Output.score u v _) (funext fun z => ?_) (funext fun z => ?_)
    · exact channel_eq R b (by show 0 + (p.val / 24 * 24 + p.val % 24) = p.val; omega) rfl rfl
    · exact channel_eq R b (by show 192 + (p.val / 24 * 24 + e.val) = 192 + (24 * (p.val / 24) + e.val); omega) rfl rfl
  rw [hrefRow, ha0, ha1, ha2, ha3]
  have hv : ∀ d : Fin 24, ReferenceIdeal.Output.part (convolved x0 x2 x3) 384 (by decide) b ⟨p.val / 24, by omega⟩ d
      ⟨i.val / 2 * 112 + q.val / 2, by omega⟩
      = ((R (ix4 b ⟨384 + (diag p d).val, by omega⟩ ⟨i.val / 2, by omega⟩ ⟨q.val / 2, by omega⟩) : ℝ) : EReal) := by
    intro d
    rw [hC]
    unfold ReferenceIdeal.Output.part
    exact channel_eq R b (by show 384 + (p.val / 24 * 24 + d.val) = 384 + (24 * (p.val / 24) + d.val); omega)
      (by show (i.val / 2 * 112 + q.val / 2) / 112 = i.val / 2; omega) (by show (i.val / 2 * 112 + q.val / 2) % 112 = q.val / 2; omega)
  simp only [hv]
  refine (Row.comb_eq s ![a0, a1, a2, a3]
    (fun d => R (ix4 b ⟨384 + (diag p d).val, by omega⟩ ⟨i.val / 2, by omega⟩ ⟨q.val / 2, by omega⟩))).symm.trans ?_
  refine Eq.trans ?_ (Eq.trans (heads_sum
    (fun r d => Cert.KernelIdeal.Attention.score
      (fun z => convolved x0 x2 x3 (ix4 b ⟨r.val, by omega⟩ ⟨z.val / 112, by omega⟩ ⟨z.val % 112, by omega⟩))
      (fun z => convolved x0 x2 x3 (ix4 b ⟨192 + d.val, by omega⟩ ⟨z.val / 112, by omega⟩ ⟨z.val % 112, by omega⟩))
      (x1 (ix3 ⟨r.val / 24, by omega⟩ 0 0)))
    ![(a0 : EReal), a1, a2, a3] p
    (fun z => convolved x0 x2 x3 (ix4 b ⟨384 + z.val, by omega⟩ ⟨i.val / 2, by omega⟩ ⟨q.val / 2, by omega⟩))).symm
    (Finset.sum_congr rfl fun z _ => rfl))
  refine Finset.sum_congr rfl fun d _ => ?_
  refine congrArg₂ (· * ·) ?_ (hR _).symm
  refine congrArg₂ (fun u v => Row.comb u v d) (funext fun e => ?_) (funext fun k => by fin_cases k <;> rfl)
  refine (hK e).symm.trans ?_
  rw [hC, ht]

end Cert.Equal
-- ==== Proof.Finite.lean ====
/-
  What the precondition says of the arguments: their elements are real numbers.
-/
module

public import proofs.«01_k».proof.Pre_finite
public import proofs.«01_k».proof.Proof.Equal

@[expose] public section

noncomputable section

namespace Cert.Finite

open Idealize.ShloMosaic Cert.Pre_finite Cert.Equal

/-- The shape relations of the precondition. -/
theorem facts : Cert.Pre_finite.Facts where
  bcast_S_S2x192x224x224 := by decide
  bcast_S_S8x1x1 := by decide
  bcast_S_S576x192x1x1 := by decide
  bcast_S_S576x1x3x3 := by decide
  bcast_S_S1 := by decide

/-- The bound of the precondition is the top element. -/
theorem bound : Ideal.ofBits .f32 0x7F800000#32 = ⊤ := by simp [Ideal.ofBits, Ideal.ieee]

/-- An element whose absolute value is below the bound is a real number. -/
theorem real_of_lt {z : EReal} (h : Ideal.cmp .olt (max z (-z)) (Ideal.ofBits .f32 0x7F800000#32) = 1#1) : IsR z := by
  rw [bound] at h
  have h' : max z (-z) < ⊤ := by
    by_contra hn
    simp [Ideal.cmp, hn] at h
  induction z with
  | bot => simp at h'
  | top => simp at h'
  | coe r => exact ⟨r, rfl⟩

/-- An array whose comparison with the bound is all ones holds real numbers. -/
theorem real_of_ones {s : Shape} (x : FVec Ideal s .f32) (d : Fin 0 → Fin s.rank) (hb : S_.BroadcastsInDim s d)
    (h : cmpf .olt (Host.absf x) (broadcastInDim s d hb (constant (F := Ideal) S_ .f32 0x7F800000#32)) = fun _ => 1#1) (i : s.Idx) :
    IsR (x i) :=
  real_of_lt (congrFun h i)

variable (x0 : FVec Ideal S2x192x224x224 .f32) (x1 : FVec Ideal S8x1x1 .f32) (x2 : FVec Ideal S576x192x1x1 .f32)
  (x3 : FVec Ideal S576x1x3x3 .f32) (x4 : FVec Ideal S192x192x1x1 .f32) (x5 x6 x7 x8 : FVec Ideal S1 .f32)

/-- The precondition's eight masks, all ones, say that the eight arrays (all but the projection's) hold real numbers. -/
theorem reals [Facts] (h : let f := fn (F := Ideal) x0 x1 x2 x3 x4 x5 x6 x7 x8
      f.1 = (fun _ => 1#1) ∧ f.2.1 = (fun _ => 1#1) ∧ f.2.2.1 = (fun _ => 1#1) ∧ f.2.2.2.1 = (fun _ => 1#1) ∧ f.2.2.2.2.1 = (fun _ => 1#1)
      ∧ f.2.2.2.2.2.1 = (fun _ => 1#1) ∧ f.2.2.2.2.2.2.1 = (fun _ => 1#1) ∧ f.2.2.2.2.2.2.2 = (fun _ => 1#1)) :
    (∀ i, IsR (x0 i)) ∧ (∀ i, IsR (x1 i)) ∧ (∀ i, IsR (x2 i)) ∧ (∀ i, IsR (x3 i))
      ∧ (∀ i, IsR (x5 i)) ∧ (∀ i, IsR (x6 i)) ∧ (∀ i, IsR (x7 i)) ∧ (∀ i, IsR (x8 i)) := by
  dsimp only [fn, fn_part1] at h
  obtain ⟨h0, h1, h2, h3, h5, h6, h7, h8⟩ := h
  exact ⟨real_of_ones x0 _ _ h0, real_of_ones x1 _ _ h1, real_of_ones x2 _ _ h2, real_of_ones x3 _ _ h3,
    real_of_ones x5 _ _ h5, real_of_ones x6 _ _ h6, real_of_ones x7 _ _ h7, real_of_ones x8 _ _ h8⟩

end Cert.Finite
-- ==== Proof.lean ====
/-
  The proof of `Cert.Claim` (proofs.«01_k».proof.Defs).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

/-- The reference runs, its arguments end unchanged and every semaphore ends at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- On finite arguments the kernel and the reference leave one array. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hargs
  refine ⟨_, Cert.KernelIdeal.KernelRun.run m g,
    (θ_run Cert.ReferenceIdeal.defs _ _).mono (fun r h c => ⟨(h c).1.trans ?_, (h c).2⟩) (Cert.ReferenceIdeal.Value.run m' g')⟩
  obtain ⟨e0, e1, e2, e3, e4, e5, e6, e7, e8⟩ := hargs c
  haveI := Cert.Finite.facts
  obtain ⟨h0, h1, h2, h3, h5, h6, h7, h8⟩ := Cert.Finite.reals _ _ _ _ _ _ _ _ _ (hpre c)
  refine (Cert.ReferenceIdeal.Read.val_main_v192_eq (launchContents m' c)).trans ?_
  refine Eq.trans ?_ (Cert.Equal.result_eq _ _ _ _ _ _ _ _ _ h0 h1 h2 h3 h5 h6 h7 h8)
  rw [← e0, ← e1, ← e2, ← e3, ← e4, ← e5, ← e6, ← e7, ← e8]

/-- Everything the statement claims: the frames, the named constant, and the equal results. -/
theorem claim : Cert.Claim := ⟨Cert.Kernel.Gen.facts, Cert.KernelIdeal.Gen.facts, Cert.ReferenceIdeal.Gen.facts, Cert.Finite.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "inv_sqrt2" .f32 0x3F3504F3#32 (((Real.sqrt 2)⁻¹ : ℝ) : EReal) rfl,
  algebraic⟩

end Cert.Proof

end
